-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S1024x1024 : Shape := ⟨2, ![1024, 1024]⟩
abbrev S1024 : Shape := ⟨1, ![1024]⟩
abbrev S_ : Shape := ⟨0, ![]⟩

class Facts : Prop where
  bcast_S_S1024x1024 : S_.BroadcastsInDim S1024x1024 (![] : Fin 0 → Fin S1024x1024.rank)

variable [Facts]

def fn {F : FTy → Type} [FloatOps F] (main_arg0 : FVec F S1024x1024 .f32) (main_arg1 : FVec F S1024x1024 .f32) (main_arg2 : FVec F S1024 .f32) : IVec S1024x1024 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  main_v2
-- ==== Pre_x_finite_ReferenceIdeal.lean ====
abbrev S32768x1024 : Shape := ⟨2, ![32768, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)

variable [Facts]

def fn {F : FTy → Type} [FloatOps F] (main_arg0 : FVec F S32768x1024 .f32) (main_arg1 : FVec F S32768x1024 .f32) (main_arg2 : FVec F S1024 .f32) : IVec S32768x1024 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  main_v2
-- ==== Kernel.lean ====
abbrev S1024x1024 : Shape := ⟨2, ![1024, 1024]⟩
abbrev S1024 : Shape := ⟨1, ![1024]⟩
abbrev S2x1024 : Shape := ⟨2, ![2, 1024]⟩
abbrev S128x1024 : Shape := ⟨2, ![128, 1024]⟩
abbrev S32x2x1024 : Shape := ⟨3, ![32, 2, 1024]⟩
abbrev S32 : Shape := ⟨1, ![32]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S1 : Shape := ⟨1, ![1]⟩
abbrev S1x2x1024 : Shape := ⟨3, ![1, 2, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S2x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S2x1024, .f32⟩
  | .local _ .vmem, ⟨5, _⟩ => ⟨S2x1024, .f32⟩
  | .local _ .vmem, ⟨6, _⟩ => ⟨S32x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 32
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let v47 : BitVec 32 := Scalar.addi v2 c1_i32_17
  let c32_i32_18 : BitVec 32 := 32#32
  let v48 : BitVec 32 := Scalar.remsi v47 c32_i32_18
  let c1_i32_20 : BitVec 32 := 1#32
  let v49 : BitVec 32 := Scalar.muli v48 c1_i32_20
  let v50 : BitVec 32 := Scalar.addi c0_i32_21 v49
  v50.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v51 : BitVec 32 := Scalar.addi v2 c2_i32
  let c32_i32_22 : BitVec 32 := 32#32
  let v52 : BitVec 32 := Scalar.remsi v51 c32_i32_22
  let c1_i32_24 : BitVec 32 := 1#32
  let v53 : BitVec 32 := Scalar.muli v52 c1_i32_24
  let v54 : BitVec 32 := Scalar.addi c0_i32_25 v53
  v54.toNat
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v55 : BitVec 32 := Scalar.addi v2 c3_i32
  let c32_i32_26 : BitVec 32 := 32#32
  let v56 : BitVec 32 := Scalar.remsi v55 c32_i32_26
  let c1_i32_28 : BitVec 32 := 1#32
  let v57 : BitVec 32 := Scalar.muli v56 c1_i32_28
  let v58 : BitVec 32 := Scalar.addi c0_i32_29 v57
  v58.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v59 : BitVec 32 := Scalar.addi v2 c4_i32
  let c32_i32_30 : BitVec 32 := 32#32
  let v60 : BitVec 32 := Scalar.remsi v59 c32_i32_30
  let c1_i32_32 : BitVec 32 := 1#32
  let v61 : BitVec 32 := Scalar.muli v60 c1_i32_32
  let v62 : BitVec 32 := Scalar.addi c0_i32_33 v61
  v62.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v63 : BitVec 32 := Scalar.addi v2 c5_i32
  let c32_i32_34 : BitVec 32 := 32#32
  let v64 : BitVec 32 := Scalar.remsi v63 c32_i32_34
  let c1_i32_36 : BitVec 32 := 1#32
  let v65 : BitVec 32 := Scalar.muli v64 c1_i32_36
  let v66 : BitVec 32 := Scalar.addi c0_i32_37 v65
  v66.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v67 : BitVec 32 := Scalar.addi v2 c6_i32
  let c32_i32_38 : BitVec 32 := 32#32
  let v68 : BitVec 32 := Scalar.remsi v67 c32_i32_38
  let c1_i32_40 : BitVec 32 := 1#32
  let v69 : BitVec 32 := Scalar.muli v68 c1_i32_40
  let v70 : BitVec 32 := Scalar.addi c0_i32_41 v69
  v70.toNat
def k0_dev7 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_42 : BitVec 32 := 7#32
  let v71 : BitVec 32 := Scalar.addi v2 c7_i32_42
  let c32_i32_43 : BitVec 32 := 32#32
  let v72 : BitVec 32 := Scalar.remsi v71 c32_i32_43
  let c1_i32_45 : BitVec 32 := 1#32
  let v73 : BitVec 32 := Scalar.muli v72 c1_i32_45
  let v74 : BitVec 32 := Scalar.addi c0_i32_46 v73
  v74.toNat
def k0_dev8 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v75 : BitVec 32 := Scalar.addi v2 c8_i32
  let c32_i32_47 : BitVec 32 := 32#32
  let v76 : BitVec 32 := Scalar.remsi v75 c32_i32_47
  let c1_i32_49 : BitVec 32 := 1#32
  let v77 : BitVec 32 := Scalar.muli v76 c1_i32_49
  let v78 : BitVec 32 := Scalar.addi c0_i32_50 v77
  v78.toNat
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v79 : BitVec 32 := Scalar.addi v2 c9_i32
  let c32_i32_51 : BitVec 32 := 32#32
  let v80 : BitVec 32 := Scalar.remsi v79 c32_i32_51
  let c1_i32_53 : BitVec 32 := 1#32
  let v81 : BitVec 32 := Scalar.muli v80 c1_i32_53
  let v82 : BitVec 32 := Scalar.addi c0_i32_54 v81
  v82.toNat
def k0_dev10 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v83 : BitVec 32 := Scalar.addi v2 c10_i32
  let c32_i32_55 : BitVec 32 := 32#32
  let v84 : BitVec 32 := Scalar.remsi v83 c32_i32_55
  let c1_i32_57 : BitVec 32 := 1#32
  let v85 : BitVec 32 := Scalar.muli v84 c1_i32_57
  let v86 : BitVec 32 := Scalar.addi c0_i32_58 v85
  v86.toNat
def k0_dev11 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v87 : BitVec 32 := Scalar.addi v2 c11_i32
  let c32_i32_59 : BitVec 32 := 32#32
  let v88 : BitVec 32 := Scalar.remsi v87 c32_i32_59
  let c1_i32_61 : BitVec 32 := 1#32
  let v89 : BitVec 32 := Scalar.muli v88 c1_i32_61
  let v90 : BitVec 32 := Scalar.addi c0_i32_62 v89
  v90.toNat
def k0_dev12 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v91 : BitVec 32 := Scalar.addi v2 c12_i32
  let c32_i32_63 : BitVec 32 := 32#32
  let v92 : BitVec 32 := Scalar.remsi v91 c32_i32_63
  let c1_i32_65 : BitVec 32 := 1#32
  let v93 : BitVec 32 := Scalar.muli v92 c1_i32_65
  let v94 : BitVec 32 := Scalar.addi c0_i32_66 v93
  v94.toNat
def k0_dev13 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v95 : BitVec 32 := Scalar.addi v2 c13_i32
  let c32_i32_67 : BitVec 32 := 32#32
  let v96 : BitVec 32 := Scalar.remsi v95 c32_i32_67
  let c1_i32_69 : BitVec 32 := 1#32
  let v97 : BitVec 32 := Scalar.muli v96 c1_i32_69
  let v98 : BitVec 32 := Scalar.addi c0_i32_70 v97
  v98.toNat
def k0_dev14 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v99 : BitVec 32 := Scalar.addi v2 c14_i32
  let c32_i32_71 : BitVec 32 := 32#32
  let v100 : BitVec 32 := Scalar.remsi v99 c32_i32_71
  let c1_i32_73 : BitVec 32 := 1#32
  let v101 : BitVec 32 := Scalar.muli v100 c1_i32_73
  let v102 : BitVec 32 := Scalar.addi c0_i32_74 v101
  v102.toNat
def k0_dev15 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v103 : BitVec 32 := Scalar.addi v2 c15_i32
  let c32_i32_75 : BitVec 32 := 32#32
  let v104 : BitVec 32 := Scalar.remsi v103 c32_i32_75
  let c1_i32_77 : BitVec 32 := 1#32
  let v105 : BitVec 32 := Scalar.muli v104 c1_i32_77
  let v106 : BitVec 32 := Scalar.addi c0_i32_78 v105
  v106.toNat
def k0_dev16 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v107 : BitVec 32 := Scalar.addi v2 c16_i32
  let c32_i32_79 : BitVec 32 := 32#32
  let v108 : BitVec 32 := Scalar.remsi v107 c32_i32_79
  let c1_i32_81 : BitVec 32 := 1#32
  let v109 : BitVec 32 := Scalar.muli v108 c1_i32_81
  let v110 : BitVec 32 := Scalar.addi c0_i32_82 v109
  v110.toNat
def k0_dev17 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v111 : BitVec 32 := Scalar.addi v2 c17_i32
  let c32_i32_83 : BitVec 32 := 32#32
  let v112 : BitVec 32 := Scalar.remsi v111 c32_i32_83
  let c1_i32_85 : BitVec 32 := 1#32
  let v113 : BitVec 32 := Scalar.muli v112 c1_i32_85
  let v114 : BitVec 32 := Scalar.addi c0_i32_86 v113
  v114.toNat
def k0_dev18 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v115 : BitVec 32 := Scalar.addi v2 c18_i32
  let c32_i32_87 : BitVec 32 := 32#32
  let v116 : BitVec 32 := Scalar.remsi v115 c32_i32_87
  let c1_i32_89 : BitVec 32 := 1#32
  let v117 : BitVec 32 := Scalar.muli v116 c1_i32_89
  let v118 : BitVec 32 := Scalar.addi c0_i32_90 v117
  v118.toNat
def k0_dev19 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v119 : BitVec 32 := Scalar.addi v2 c19_i32
  let c32_i32_91 : BitVec 32 := 32#32
  let v120 : BitVec 32 := Scalar.remsi v119 c32_i32_91
  let c1_i32_93 : BitVec 32 := 1#32
  let v121 : BitVec 32 := Scalar.muli v120 c1_i32_93
  let v122 : BitVec 32 := Scalar.addi c0_i32_94 v121
  v122.toNat
def k0_dev20 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v123 : BitVec 32 := Scalar.addi v2 c20_i32
  let c32_i32_95 : BitVec 32 := 32#32
  let v124 : BitVec 32 := Scalar.remsi v123 c32_i32_95
  let c1_i32_97 : BitVec 32 := 1#32
  let v125 : BitVec 32 := Scalar.muli v124 c1_i32_97
  let v126 : BitVec 32 := Scalar.addi c0_i32_98 v125
  v126.toNat
def k0_dev21 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v127 : BitVec 32 := Scalar.addi v2 c21_i32
  let c32_i32_99 : BitVec 32 := 32#32
  let v128 : BitVec 32 := Scalar.remsi v127 c32_i32_99
  let c1_i32_101 : BitVec 32 := 1#32
  let v129 : BitVec 32 := Scalar.muli v128 c1_i32_101
  let v130 : BitVec 32 := Scalar.addi c0_i32_102 v129
  v130.toNat
def k0_dev22 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v131 : BitVec 32 := Scalar.addi v2 c22_i32
  let c32_i32_103 : BitVec 32 := 32#32
  let v132 : BitVec 32 := Scalar.remsi v131 c32_i32_103
  let c1_i32_105 : BitVec 32 := 1#32
  let v133 : BitVec 32 := Scalar.muli v132 c1_i32_105
  let v134 : BitVec 32 := Scalar.addi c0_i32_106 v133
  v134.toNat
def k0_dev23 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v135 : BitVec 32 := Scalar.addi v2 c23_i32
  let c32_i32_107 : BitVec 32 := 32#32
  let v136 : BitVec 32 := Scalar.remsi v135 c32_i32_107
  let c1_i32_109 : BitVec 32 := 1#32
  let v137 : BitVec 32 := Scalar.muli v136 c1_i32_109
  let v138 : BitVec 32 := Scalar.addi c0_i32_110 v137
  v138.toNat
def k0_dev24 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v139 : BitVec 32 := Scalar.addi v2 c24_i32
  let c32_i32_111 : BitVec 32 := 32#32
  let v140 : BitVec 32 := Scalar.remsi v139 c32_i32_111
  let c1_i32_113 : BitVec 32 := 1#32
  let v141 : BitVec 32 := Scalar.muli v140 c1_i32_113
  let v142 : BitVec 32 := Scalar.addi c0_i32_114 v141
  v142.toNat
def k0_dev25 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v143 : BitVec 32 := Scalar.addi v2 c25_i32
  let c32_i32_115 : BitVec 32 := 32#32
  let v144 : BitVec 32 := Scalar.remsi v143 c32_i32_115
  let c1_i32_117 : BitVec 32 := 1#32
  let v145 : BitVec 32 := Scalar.muli v144 c1_i32_117
  let v146 : BitVec 32 := Scalar.addi c0_i32_118 v145
  v146.toNat
def k0_dev26 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v147 : BitVec 32 := Scalar.addi v2 c26_i32
  let c32_i32_119 : BitVec 32 := 32#32
  let v148 : BitVec 32 := Scalar.remsi v147 c32_i32_119
  let c1_i32_121 : BitVec 32 := 1#32
  let v149 : BitVec 32 := Scalar.muli v148 c1_i32_121
  let v150 : BitVec 32 := Scalar.addi c0_i32_122 v149
  v150.toNat
def k0_dev27 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v151 : BitVec 32 := Scalar.addi v2 c27_i32
  let c32_i32_123 : BitVec 32 := 32#32
  let v152 : BitVec 32 := Scalar.remsi v151 c32_i32_123
  let c1_i32_125 : BitVec 32 := 1#32
  let v153 : BitVec 32 := Scalar.muli v152 c1_i32_125
  let v154 : BitVec 32 := Scalar.addi c0_i32_126 v153
  v154.toNat
def k0_dev28 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v155 : BitVec 32 := Scalar.addi v2 c28_i32
  let c32_i32_127 : BitVec 32 := 32#32
  let v156 : BitVec 32 := Scalar.remsi v155 c32_i32_127
  let c1_i32_129 : BitVec 32 := 1#32
  let v157 : BitVec 32 := Scalar.muli v156 c1_i32_129
  let v158 : BitVec 32 := Scalar.addi c0_i32_130 v157
  v158.toNat
def k0_dev29 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v159 : BitVec 32 := Scalar.addi v2 c29_i32
  let c32_i32_131 : BitVec 32 := 32#32
  let v160 : BitVec 32 := Scalar.remsi v159 c32_i32_131
  let c1_i32_133 : BitVec 32 := 1#32
  let v161 : BitVec 32 := Scalar.muli v160 c1_i32_133
  let v162 : BitVec 32 := Scalar.addi c0_i32_134 v161
  v162.toNat
def k0_dev30 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v163 : BitVec 32 := Scalar.addi v2 c30_i32
  let c32_i32_135 : BitVec 32 := 32#32
  let v164 : BitVec 32 := Scalar.remsi v163 c32_i32_135
  let c1_i32_137 : BitVec 32 := 1#32
  let v165 : BitVec 32 := Scalar.muli v164 c1_i32_137
  let v166 : BitVec 32 := Scalar.addi c0_i32_138 v165
  v166.toNat
def k0_dev31 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v167 : BitVec 32 := Scalar.addi v2 c31_i32
  let c32_i32_139 : BitVec 32 := 32#32
  let v168 : BitVec 32 := Scalar.remsi v167 c32_i32_139
  let c1_i32_141 : BitVec 32 := 1#32
  let v169 : BitVec 32 := Scalar.muli v168 c1_i32_141
  let v170 : BitVec 32 := Scalar.addi c0_i32_142 v169
  v170.toNat
def k0_cond2 (i : grid0.Coords) : BitVec 1 :=
  let arg0 : BitVec 32 := BitVec.ofNat 32 (i 0).val
  let c7_i32 : BitVec 32 := 7#32
  let v44 : BitVec 1 := Scalar.cmpi .eq arg0 c7_i32
  let v45 : BitVec 32 := Scalar.extui v44
  let c0_i32_16 : BitVec 32 := 0#32
  let v46 : BitVec 1 := Scalar.cmpi .ne v45 c0_i32_16
  v46

def k0_off1 (d0 : Dev nD) (c1_i32_17 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v47 : BitVec 32 := Scalar.addi v2 c1_i32_17
  let c32_i32_18 : BitVec 32 := 32#32
  let v48 : BitVec 32 := Scalar.remsi v47 c32_i32_18
  ![v48.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_21 : BitVec 32 := 0#32
  let c0_i32_22 : BitVec 32 := 0#32
  ![v2.toNat, 0, 0]
def k0_dev32 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_17 : BitVec 32 := 1#32
  let v47 : BitVec 32 := Scalar.addi v2 c1_i32_17
  let c32_i32_18 : BitVec 32 := 32#32
  let v48 : BitVec 32 := Scalar.remsi v47 c32_i32_18
  let c1_i32_19 : BitVec 32 := 1#32
  let v49 : BitVec 32 := Scalar.muli v48 c1_i32_19
  let v50 : BitVec 32 := Scalar.addi c0_i32_20 v49
  v50.toNat
def k0_dev33 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v57 : BitVec 32 := Scalar.addi v2 c2_i32
  let c32_i32_23 : BitVec 32 := 32#32
  let v58 : BitVec 32 := Scalar.remsi v57 c32_i32_23
  let c1_i32_24 : BitVec 32 := 1#32
  let v59 : BitVec 32 := Scalar.muli v58 c1_i32_24
  let v60 : BitVec 32 := Scalar.addi c0_i32_25 v59
  v60.toNat
def k0_dev34 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v67 : BitVec 32 := Scalar.addi v2 c3_i32
  let c32_i32_28 : BitVec 32 := 32#32
  let v68 : BitVec 32 := Scalar.remsi v67 c32_i32_28
  let c1_i32_29 : BitVec 32 := 1#32
  let v69 : BitVec 32 := Scalar.muli v68 c1_i32_29
  let v70 : BitVec 32 := Scalar.addi c0_i32_30 v69
  v70.toNat
def k0_dev35 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v77 : BitVec 32 := Scalar.addi v2 c4_i32
  let c32_i32_33 : BitVec 32 := 32#32
  let v78 : BitVec 32 := Scalar.remsi v77 c32_i32_33
  let c1_i32_34 : BitVec 32 := 1#32
  let v79 : BitVec 32 := Scalar.muli v78 c1_i32_34
  let v80 : BitVec 32 := Scalar.addi c0_i32_35 v79
  v80.toNat
def k0_dev36 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v87 : BitVec 32 := Scalar.addi v2 c5_i32
  let c32_i32_38 : BitVec 32 := 32#32
  let v88 : BitVec 32 := Scalar.remsi v87 c32_i32_38
  let c1_i32_39 : BitVec 32 := 1#32
  let v89 : BitVec 32 := Scalar.muli v88 c1_i32_39
  let v90 : BitVec 32 := Scalar.addi c0_i32_40 v89
  v90.toNat
def k0_dev37 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v97 : BitVec 32 := Scalar.addi v2 c6_i32
  let c32_i32_43 : BitVec 32 := 32#32
  let v98 : BitVec 32 := Scalar.remsi v97 c32_i32_43
  let c1_i32_44 : BitVec 32 := 1#32
  let v99 : BitVec 32 := Scalar.muli v98 c1_i32_44
  let v100 : BitVec 32 := Scalar.addi c0_i32_45 v99
  v100.toNat
def k0_dev38 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_48 : BitVec 32 := 7#32
  let v107 : BitVec 32 := Scalar.addi v2 c7_i32_48
  let c32_i32_49 : BitVec 32 := 32#32
  let v108 : BitVec 32 := Scalar.remsi v107 c32_i32_49
  let c1_i32_50 : BitVec 32 := 1#32
  let v109 : BitVec 32 := Scalar.muli v108 c1_i32_50
  let v110 : BitVec 32 := Scalar.addi c0_i32_51 v109
  v110.toNat
def k0_dev39 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v117 : BitVec 32 := Scalar.addi v2 c8_i32
  let c32_i32_54 : BitVec 32 := 32#32
  let v118 : BitVec 32 := Scalar.remsi v117 c32_i32_54
  let c1_i32_55 : BitVec 32 := 1#32
  let v119 : BitVec 32 := Scalar.muli v118 c1_i32_55
  let v120 : BitVec 32 := Scalar.addi c0_i32_56 v119
  v120.toNat
def k0_dev40 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v127 : BitVec 32 := Scalar.addi v2 c9_i32
  let c32_i32_59 : BitVec 32 := 32#32
  let v128 : BitVec 32 := Scalar.remsi v127 c32_i32_59
  let c1_i32_60 : BitVec 32 := 1#32
  let v129 : BitVec 32 := Scalar.muli v128 c1_i32_60
  let v130 : BitVec 32 := Scalar.addi c0_i32_61 v129
  v130.toNat
def k0_dev41 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v137 : BitVec 32 := Scalar.addi v2 c10_i32
  let c32_i32_64 : BitVec 32 := 32#32
  let v138 : BitVec 32 := Scalar.remsi v137 c32_i32_64
  let c1_i32_65 : BitVec 32 := 1#32
  let v139 : BitVec 32 := Scalar.muli v138 c1_i32_65
  let v140 : BitVec 32 := Scalar.addi c0_i32_66 v139
  v140.toNat
def k0_dev42 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v147 : BitVec 32 := Scalar.addi v2 c11_i32
  let c32_i32_69 : BitVec 32 := 32#32
  let v148 : BitVec 32 := Scalar.remsi v147 c32_i32_69
  let c1_i32_70 : BitVec 32 := 1#32
  let v149 : BitVec 32 := Scalar.muli v148 c1_i32_70
  let v150 : BitVec 32 := Scalar.addi c0_i32_71 v149
  v150.toNat
def k0_dev43 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v157 : BitVec 32 := Scalar.addi v2 c12_i32
  let c32_i32_74 : BitVec 32 := 32#32
  let v158 : BitVec 32 := Scalar.remsi v157 c32_i32_74
  let c1_i32_75 : BitVec 32 := 1#32
  let v159 : BitVec 32 := Scalar.muli v158 c1_i32_75
  let v160 : BitVec 32 := Scalar.addi c0_i32_76 v159
  v160.toNat
def k0_dev44 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v167 : BitVec 32 := Scalar.addi v2 c13_i32
  let c32_i32_79 : BitVec 32 := 32#32
  let v168 : BitVec 32 := Scalar.remsi v167 c32_i32_79
  let c1_i32_80 : BitVec 32 := 1#32
  let v169 : BitVec 32 := Scalar.muli v168 c1_i32_80
  let v170 : BitVec 32 := Scalar.addi c0_i32_81 v169
  v170.toNat
def k0_dev45 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v177 : BitVec 32 := Scalar.addi v2 c14_i32
  let c32_i32_84 : BitVec 32 := 32#32
  let v178 : BitVec 32 := Scalar.remsi v177 c32_i32_84
  let c1_i32_85 : BitVec 32 := 1#32
  let v179 : BitVec 32 := Scalar.muli v178 c1_i32_85
  let v180 : BitVec 32 := Scalar.addi c0_i32_86 v179
  v180.toNat
def k0_dev46 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v187 : BitVec 32 := Scalar.addi v2 c15_i32
  let c32_i32_89 : BitVec 32 := 32#32
  let v188 : BitVec 32 := Scalar.remsi v187 c32_i32_89
  let c1_i32_90 : BitVec 32 := 1#32
  let v189 : BitVec 32 := Scalar.muli v188 c1_i32_90
  let v190 : BitVec 32 := Scalar.addi c0_i32_91 v189
  v190.toNat
def k0_dev47 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v197 : BitVec 32 := Scalar.addi v2 c16_i32
  let c32_i32_94 : BitVec 32 := 32#32
  let v198 : BitVec 32 := Scalar.remsi v197 c32_i32_94
  let c1_i32_95 : BitVec 32 := 1#32
  let v199 : BitVec 32 := Scalar.muli v198 c1_i32_95
  let v200 : BitVec 32 := Scalar.addi c0_i32_96 v199
  v200.toNat
def k0_dev48 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v207 : BitVec 32 := Scalar.addi v2 c17_i32
  let c32_i32_99 : BitVec 32 := 32#32
  let v208 : BitVec 32 := Scalar.remsi v207 c32_i32_99
  let c1_i32_100 : BitVec 32 := 1#32
  let v209 : BitVec 32 := Scalar.muli v208 c1_i32_100
  let v210 : BitVec 32 := Scalar.addi c0_i32_101 v209
  v210.toNat
def k0_dev49 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v217 : BitVec 32 := Scalar.addi v2 c18_i32
  let c32_i32_104 : BitVec 32 := 32#32
  let v218 : BitVec 32 := Scalar.remsi v217 c32_i32_104
  let c1_i32_105 : BitVec 32 := 1#32
  let v219 : BitVec 32 := Scalar.muli v218 c1_i32_105
  let v220 : BitVec 32 := Scalar.addi c0_i32_106 v219
  v220.toNat
def k0_dev50 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v227 : BitVec 32 := Scalar.addi v2 c19_i32
  let c32_i32_109 : BitVec 32 := 32#32
  let v228 : BitVec 32 := Scalar.remsi v227 c32_i32_109
  let c1_i32_110 : BitVec 32 := 1#32
  let v229 : BitVec 32 := Scalar.muli v228 c1_i32_110
  let v230 : BitVec 32 := Scalar.addi c0_i32_111 v229
  v230.toNat
def k0_dev51 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v237 : BitVec 32 := Scalar.addi v2 c20_i32
  let c32_i32_114 : BitVec 32 := 32#32
  let v238 : BitVec 32 := Scalar.remsi v237 c32_i32_114
  let c1_i32_115 : BitVec 32 := 1#32
  let v239 : BitVec 32 := Scalar.muli v238 c1_i32_115
  let v240 : BitVec 32 := Scalar.addi c0_i32_116 v239
  v240.toNat
def k0_dev52 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v247 : BitVec 32 := Scalar.addi v2 c21_i32
  let c32_i32_119 : BitVec 32 := 32#32
  let v248 : BitVec 32 := Scalar.remsi v247 c32_i32_119
  let c1_i32_120 : BitVec 32 := 1#32
  let v249 : BitVec 32 := Scalar.muli v248 c1_i32_120
  let v250 : BitVec 32 := Scalar.addi c0_i32_121 v249
  v250.toNat
def k0_dev53 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v257 : BitVec 32 := Scalar.addi v2 c22_i32
  let c32_i32_124 : BitVec 32 := 32#32
  let v258 : BitVec 32 := Scalar.remsi v257 c32_i32_124
  let c1_i32_125 : BitVec 32 := 1#32
  let v259 : BitVec 32 := Scalar.muli v258 c1_i32_125
  let v260 : BitVec 32 := Scalar.addi c0_i32_126 v259
  v260.toNat
def k0_dev54 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v267 : BitVec 32 := Scalar.addi v2 c23_i32
  let c32_i32_129 : BitVec 32 := 32#32
  let v268 : BitVec 32 := Scalar.remsi v267 c32_i32_129
  let c1_i32_130 : BitVec 32 := 1#32
  let v269 : BitVec 32 := Scalar.muli v268 c1_i32_130
  let v270 : BitVec 32 := Scalar.addi c0_i32_131 v269
  v270.toNat
def k0_dev55 (d0 : Dev nD) : Nat :=
  let c0_i32_136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v277 : BitVec 32 := Scalar.addi v2 c24_i32
  let c32_i32_134 : BitVec 32 := 32#32
  let v278 : BitVec 32 := Scalar.remsi v277 c32_i32_134
  let c1_i32_135 : BitVec 32 := 1#32
  let v279 : BitVec 32 := Scalar.muli v278 c1_i32_135
  let v280 : BitVec 32 := Scalar.addi c0_i32_136 v279
  v280.toNat
def k0_dev56 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v287 : BitVec 32 := Scalar.addi v2 c25_i32
  let c32_i32_139 : BitVec 32 := 32#32
  let v288 : BitVec 32 := Scalar.remsi v287 c32_i32_139
  let c1_i32_140 : BitVec 32 := 1#32
  let v289 : BitVec 32 := Scalar.muli v288 c1_i32_140
  let v290 : BitVec 32 := Scalar.addi c0_i32_141 v289
  v290.toNat
def k0_dev57 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v297 : BitVec 32 := Scalar.addi v2 c26_i32
  let c32_i32_144 : BitVec 32 := 32#32
  let v298 : BitVec 32 := Scalar.remsi v297 c32_i32_144
  let c1_i32_145 : BitVec 32 := 1#32
  let v299 : BitVec 32 := Scalar.muli v298 c1_i32_145
  let v300 : BitVec 32 := Scalar.addi c0_i32_146 v299
  v300.toNat
def k0_dev58 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v307 : BitVec 32 := Scalar.addi v2 c27_i32
  let c32_i32_149 : BitVec 32 := 32#32
  let v308 : BitVec 32 := Scalar.remsi v307 c32_i32_149
  let c1_i32_150 : BitVec 32 := 1#32
  let v309 : BitVec 32 := Scalar.muli v308 c1_i32_150
  let v310 : BitVec 32 := Scalar.addi c0_i32_151 v309
  v310.toNat
def k0_dev59 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v317 : BitVec 32 := Scalar.addi v2 c28_i32
  let c32_i32_154 : BitVec 32 := 32#32
  let v318 : BitVec 32 := Scalar.remsi v317 c32_i32_154
  let c1_i32_155 : BitVec 32 := 1#32
  let v319 : BitVec 32 := Scalar.muli v318 c1_i32_155
  let v320 : BitVec 32 := Scalar.addi c0_i32_156 v319
  v320.toNat
def k0_dev60 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v327 : BitVec 32 := Scalar.addi v2 c29_i32
  let c32_i32_159 : BitVec 32 := 32#32
  let v328 : BitVec 32 := Scalar.remsi v327 c32_i32_159
  let c1_i32_160 : BitVec 32 := 1#32
  let v329 : BitVec 32 := Scalar.muli v328 c1_i32_160
  let v330 : BitVec 32 := Scalar.addi c0_i32_161 v329
  v330.toNat
def k0_dev61 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v337 : BitVec 32 := Scalar.addi v2 c30_i32
  let c32_i32_164 : BitVec 32 := 32#32
  let v338 : BitVec 32 := Scalar.remsi v337 c32_i32_164
  let c1_i32_165 : BitVec 32 := 1#32
  let v339 : BitVec 32 := Scalar.muli v338 c1_i32_165
  let v340 : BitVec 32 := Scalar.addi c0_i32_166 v339
  v340.toNat
def k0_dev62 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_169 : BitVec 32 := 31#32
  let v347 : BitVec 32 := Scalar.addi v2 c31_i32_169
  let c32_i32_170 : BitVec 32 := 32#32
  let v348 : BitVec 32 := Scalar.remsi v347 c32_i32_170
  let c1_i32_171 : BitVec 32 := 1#32
  let v349 : BitVec 32 := Scalar.muli v348 c1_i32_171
  let v350 : BitVec 32 := Scalar.addi c0_i32_172 v349
  v350.toNat
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v358 : Index := Scalar.indexCast v2
  let c0_177 : Index := 0#32
  let c0_178 : Index := 0#32
  ![v358.toNat, 0, 0]
def k0_off5 (d0 : Dev nD) (c1_i32_179 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v362 : BitVec 32 := Scalar.addi v2 c1_i32_179
  let c32_i32_180 : BitVec 32 := 32#32
  let v363 : BitVec 32 := Scalar.remsi v362 c32_i32_180
  let c0_i32_183 : BitVec 32 := 0#32
  let c0_i32_184 : BitVec 32 := 0#32
  ![v363.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S2x1024 : Shape := ⟨2, ![2, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .i32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.KI.Loop.lean ====
/-
# The kernel body with its unrolled statements as loops over a list of offsets

The printed body has 31 signals, 31 remote copies, 31 waits for arrivals and 31 waits for departures, each written
out. Here each family is one recursion over a list of the offsets `r : Fin 31` (offset `r + 1` round the ring of 32
devices), and the printed body at each kind of grid point is shown equal to the program made of the recursions.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.SL.Sem

variable {F : FTy → Type} [FloatOps F]

/-- The device `r + 1` steps after `c` round the ring. -/
def peer (c : Dev nD) (r : Fin 31) : Dev nD := ⟨(c.val + r.val + 1) % 32, Nat.mod_lt _ (by decide)⟩

/-- All offsets, in the order in which the body goes through them. -/
abbrev offs : List (Fin 31) :=
  [0, 1, 2, 3, 4, 5, 6, 7, 8, 9, 10, 11, 12, 13, 14, 15, 16, 17, 18, 19, 20, 21, 22, 23, 24, 25, 26, 27, 28, 29, 30]

/-- The barrier's semaphore. -/
abbrev barS : Sem sig := (SemArray.scalar (sig.barrier 0 rfl) : Sems sig S_).sem

/-- One unit to the barrier of each device that `p` names at the listed offsets. -/
def sigLoop (p : Fin 31 → Dev nD) : List (Fin 31) → Prog (TpuEff nD τ sig (Elt F) Λ₀ .tc) PUnit
  | [] => .ret ⟨⟩
  | r :: l => semSignalWord (p r) barS 1#32 >>= fun _ => sigLoop p l

section Tail

variable (i : grid0.Coords) (h2 : k0_cond2 i = 1#1) (d0 : Dev nD)
variable (A : Memref sig .tc .vmem S2x1024 .f32) (hA : A.IsWhole) (C : Memref sig .tc .vmem S32x2x1024 .f32)
variable (s2 s3 : DmaSems sig S32)

/-- The semaphore of `s` at offset `r` round the ring. -/
abbrev semAt (s : DmaSems sig S32) (r : Fin 31) : DmaSem sig :=
  ((s.slice (Rect.unit (s := S32) (k0_off1 d0 (BitVec.ofNat 32 (1 + r.val))) S1.size (k0_off1_inb i d0 h2 r))).squeeze S_ squeezes_S1_S_).sem
/-- The semaphore of `s` at the device's own place. -/
abbrev semOwn (s : DmaSems sig S32) : DmaSem sig :=
  ((s.slice (Rect.unit (s := S32) (k0_off2 d0) S1.size (k0_off2_inb i d0 h2))).squeeze S_ squeezes_S1_S_).sem
/-- The slot of the exchange buffer at the device's own place. -/
abbrev slotOwn : Memref sig .tc .vmem S2x1024 .f32 :=
  (C.slice (Rect.unit (s := S32x2x1024) (k0_off3 d0) S1x2x1024.size (k0_off3_inb i d0 h2)) (fun _ => rfl)).squeeze S2x1024 squeezes_S1x2x1024_S2x1024
/-- The slot of the exchange buffer at offset `r` round the ring. -/
abbrev slotAt (r : Fin 31) : Memref sig .tc .vmem S2x1024 .f32 :=
  (C.slice (Rect.unit (s := S32x2x1024) (k0_off5 d0 (BitVec.ofNat 32 (1 + r.val))) S1x2x1024.size (k0_off5_inb i d0 h2 r)) (fun _ => rfl)).squeeze S2x1024 squeezes_S1x2x1024_S2x1024

/-- The copies of the accumulator into the own slot of each device that `p` names at the listed offsets. -/
def sendLoop (p : Fin 31 → Dev nD) : List (Fin 31) → Prog (TpuEff nD τ sig (Elt F) Λ₀ .tc) PUnit
  | [] => .ret ⟨⟩
  | r :: l => .op (.enqueueDma A (.remote (Dev.tc (p r)) (slotOwn i h2 d0 C) (.dma (semAt i h2 d0 s2 r))) (.dma (semOwn i h2 d0 s3))
      hA.wordExact ((View.wordExact_bits rfl).reshape _ _) ⟨⟨rfl, Or.inl rfl⟩, trivial⟩) fun _ => sendLoop p l

/-- The waits for the arrivals at the listed offsets. -/
def recvLoop : List (Fin 31) → Prog (TpuEff nD τ sig (Elt F) Λ₀ .tc) PUnit
  | [] => .ret ⟨⟩
  | r :: l => .op (.waitDma2 (semAt i h2 d0 s3 r) A (slotAt i h2 d0 C r) hA.wordExact ((View.wordExact_bits rfl).reshape _ _)) fun _ => recvLoop l

/-- The waits for the departures at the listed offsets. -/
def doneLoop : List (Fin 31) → Prog (TpuEff nD τ sig (Elt F) Λ₀ .tc) PUnit
  | [] => .ret ⟨⟩
  | r :: l => .op (.waitDma2 (semAt i h2 d0 s2 r) (slotOwn i h2 d0 C) A ((View.wordExact_bits rfl).reshape _ _) hA.wordExact) fun _ => doneLoop l

/-- What the last grid point does after it has added its block: the barrier, the exchange, the sum over the slots. -/
def tail (O : Memref sig .tc .vmem S2x1024 .f32) (p : Fin 31 → Dev nD) : Prog (TpuEff nD τ sig (Elt F) Λ₀ .tc) PUnit := do
  semWaitWord barS 31#32
  sendLoop i h2 d0 A hA C s2 s3 p offs
  let a ← Prog.lift (.load A (Rect.unit (s := S2x1024) ![0, 0] S2x1024.size inb_S2x1024_S2x1024_0_0).toLoadRect (View.loadsAt_vmem h_S2x1024))
  let _ ← Prog.lift (.load C (Rect.unit (s := S32x2x1024) (k0_off4 d0) S1x2x1024.size (k0_off4_inb i d0 h2)).toLoadRect (View.loadsAt_vmem h_S1x2x1024))
  Prog.lift (.store C (Rect.unit (s := S32x2x1024) (k0_off4 d0) S1x2x1024.size (k0_off4_inb i d0 h2)) (k0_pay2 a) Finset.univ (View.stores_vmem_bits_univ h_S1x2x1024 rfl) (.inl rfl))
  recvLoop i h2 d0 A hA C s3 offs
  let b ← Prog.lift (.load C (Rect.unit (s := S32x2x1024) ![0, 0, 0] S32x2x1024.size inb_S32x2x1024_S32x2x1024_0_0_0).toLoadRect (View.loadsAt_vmem h_S32x2x1024))
  let _ ← Prog.lift (.load O (Rect.unit (s := S2x1024) ![0, 0] S2x1024.size inb_S2x1024_S2x1024_0_0).toLoadRect (View.loadsAt_vmem h_S2x1024))
  Prog.lift (.store O (Rect.unit (s := S2x1024) ![0, 0] S2x1024.size inb_S2x1024_S2x1024_0_0) (k0_pay3 b) Finset.univ (View.stores_vmem_bits_univ h_S2x1024 rfl) (.inl rfl))
  doneLoop i h2 d0 A hA C s2 offs

end Tail

/-- The accumulation every grid point does, then `k`. -/
def accum (i : grid0.Coords) (X Y : Memref sig .tc .vmem S128x1024 .f32) (A : Memref sig .tc .vmem S2x1024 .f32)
    (k : Prog (TpuEff nD τ sig (Elt F) Λ₀ .tc) PUnit) : Prog (TpuEff nD τ sig (Elt F) Λ₀ .tc) PUnit := do
  let x ← Prog.lift (.load X (Rect.unit (s := S128x1024) ![0, 0] S128x1024.size inb_S128x1024_S128x1024_0_0).toLoadRect (View.loadsAt_vmem h_S128x1024))
  let y ← Prog.lift (.load Y (Rect.unit (s := S128x1024) ![0, 0] S128x1024.size inb_S128x1024_S128x1024_0_0).toLoadRect (View.loadsAt_vmem h_S128x1024))
  let a ← Prog.lift (.load A (Rect.unit (s := S2x1024) ![0, 0] S2x1024.size inb_S2x1024_S2x1024_0_0).toLoadRect (View.loadsAt_vmem h_S2x1024))
  let _ ← Prog.lift (.load A (Rect.unit (s := S2x1024) ![0, 0] S2x1024.size inb_S2x1024_S2x1024_0_0).toLoadRect (View.loadsAt_vmem h_S2x1024))
  Prog.lift (.store A (Rect.unit (s := S2x1024) ![0, 0] S2x1024.size inb_S2x1024_S2x1024_0_0)
    (k0_pay1 (k0_pay4 x y) (Scalar.cmpi .eq (BitVec.ofNat 32 (i 0).val) 0#32) (k0_pay5 (F := F)) a) Finset.univ (View.stores_vmem_bits_univ h_S2x1024 rfl) (.inl rfl))
  k

/-- The devices the body's signals name, as printed. -/
def sigDev (i : grid0.Coords) (h1 : k0_cond1 i = 1#1) (d0 : Dev nD) : Fin 31 → Dev nD :=
  ![⟨k0_dev1 d0, k0_dev1_lt i d0 h1⟩, ⟨k0_dev2 d0, k0_dev2_lt i d0 h1⟩, ⟨k0_dev3 d0, k0_dev3_lt i d0 h1⟩, ⟨k0_dev4 d0, k0_dev4_lt i d0 h1⟩,
    ⟨k0_dev5 d0, k0_dev5_lt i d0 h1⟩, ⟨k0_dev6 d0, k0_dev6_lt i d0 h1⟩, ⟨k0_dev7 d0, k0_dev7_lt i d0 h1⟩, ⟨k0_dev8 d0, k0_dev8_lt i d0 h1⟩,
    ⟨k0_dev9 d0, k0_dev9_lt i d0 h1⟩, ⟨k0_dev10 d0, k0_dev10_lt i d0 h1⟩, ⟨k0_dev11 d0, k0_dev11_lt i d0 h1⟩, ⟨k0_dev12 d0, k0_dev12_lt i d0 h1⟩,
    ⟨k0_dev13 d0, k0_dev13_lt i d0 h1⟩, ⟨k0_dev14 d0, k0_dev14_lt i d0 h1⟩, ⟨k0_dev15 d0, k0_dev15_lt i d0 h1⟩, ⟨k0_dev16 d0, k0_dev16_lt i d0 h1⟩,
    ⟨k0_dev17 d0, k0_dev17_lt i d0 h1⟩, ⟨k0_dev18 d0, k0_dev18_lt i d0 h1⟩, ⟨k0_dev19 d0, k0_dev19_lt i d0 h1⟩, ⟨k0_dev20 d0, k0_dev20_lt i d0 h1⟩,
    ⟨k0_dev21 d0, k0_dev21_lt i d0 h1⟩, ⟨k0_dev22 d0, k0_dev22_lt i d0 h1⟩, ⟨k0_dev23 d0, k0_dev23_lt i d0 h1⟩, ⟨k0_dev24 d0, k0_dev24_lt i d0 h1⟩,
    ⟨k0_dev25 d0, k0_dev25_lt i d0 h1⟩, ⟨k0_dev26 d0, k0_dev26_lt i d0 h1⟩, ⟨k0_dev27 d0, k0_dev27_lt i d0 h1⟩, ⟨k0_dev28 d0, k0_dev28_lt i d0 h1⟩,
    ⟨k0_dev29 d0, k0_dev29_lt i d0 h1⟩, ⟨k0_dev30 d0, k0_dev30_lt i d0 h1⟩, ⟨k0_dev31 d0, k0_dev31_lt i d0 h1⟩]

/-- The devices the body's copies name, as printed. -/
def sendDev (i : grid0.Coords) (h2 : k0_cond2 i = 1#1) (d0 : Dev nD) : Fin 31 → Dev nD :=
  ![⟨k0_dev32 d0, k0_dev32_lt i d0 h2⟩, ⟨k0_dev33 d0, k0_dev33_lt i d0 h2⟩, ⟨k0_dev34 d0, k0_dev34_lt i d0 h2⟩, ⟨k0_dev35 d0, k0_dev35_lt i d0 h2⟩,
    ⟨k0_dev36 d0, k0_dev36_lt i d0 h2⟩, ⟨k0_dev37 d0, k0_dev37_lt i d0 h2⟩, ⟨k0_dev38 d0, k0_dev38_lt i d0 h2⟩, ⟨k0_dev39 d0, k0_dev39_lt i d0 h2⟩,
    ⟨k0_dev40 d0, k0_dev40_lt i d0 h2⟩, ⟨k0_dev41 d0, k0_dev41_lt i d0 h2⟩, ⟨k0_dev42 d0, k0_dev42_lt i d0 h2⟩, ⟨k0_dev43 d0, k0_dev43_lt i d0 h2⟩,
    ⟨k0_dev44 d0, k0_dev44_lt i d0 h2⟩, ⟨k0_dev45 d0, k0_dev45_lt i d0 h2⟩, ⟨k0_dev46 d0, k0_dev46_lt i d0 h2⟩, ⟨k0_dev47 d0, k0_dev47_lt i d0 h2⟩,
    ⟨k0_dev48 d0, k0_dev48_lt i d0 h2⟩, ⟨k0_dev49 d0, k0_dev49_lt i d0 h2⟩, ⟨k0_dev50 d0, k0_dev50_lt i d0 h2⟩, ⟨k0_dev51 d0, k0_dev51_lt i d0 h2⟩,
    ⟨k0_dev52 d0, k0_dev52_lt i d0 h2⟩, ⟨k0_dev53 d0, k0_dev53_lt i d0 h2⟩, ⟨k0_dev54 d0, k0_dev54_lt i d0 h2⟩, ⟨k0_dev55 d0, k0_dev55_lt i d0 h2⟩,
    ⟨k0_dev56 d0, k0_dev56_lt i d0 h2⟩, ⟨k0_dev57 d0, k0_dev57_lt i d0 h2⟩, ⟨k0_dev58 d0, k0_dev58_lt i d0 h2⟩, ⟨k0_dev59 d0, k0_dev59_lt i d0 h2⟩,
    ⟨k0_dev60 d0, k0_dev60_lt i d0 h2⟩, ⟨k0_dev61 d0, k0_dev61_lt i d0 h2⟩, ⟨k0_dev62 d0, k0_dev62_lt i d0 h2⟩]

theorem sigDev_eq (i : grid0.Coords) (h1 : k0_cond1 i = 1#1) (d0 : Dev nD) : sigDev i h1 d0 = peer d0 := by
  funext r; apply Fin.ext
  fin_cases r
  · exact k0_dev1_eq d0
  · exact k0_dev2_eq d0
  · exact k0_dev3_eq d0
  · exact k0_dev4_eq d0
  · exact k0_dev5_eq d0
  · exact k0_dev6_eq d0
  · exact k0_dev7_eq d0
  · exact k0_dev8_eq d0
  · exact k0_dev9_eq d0
  · exact k0_dev10_eq d0
  · exact k0_dev11_eq d0
  · exact k0_dev12_eq d0
  · exact k0_dev13_eq d0
  · exact k0_dev14_eq d0
  · exact k0_dev15_eq d0
  · exact k0_dev16_eq d0
  · exact k0_dev17_eq d0
  · exact k0_dev18_eq d0
  · exact k0_dev19_eq d0
  · exact k0_dev20_eq d0
  · exact k0_dev21_eq d0
  · exact k0_dev22_eq d0
  · exact k0_dev23_eq d0
  · exact k0_dev24_eq d0
  · exact k0_dev25_eq d0
  · exact k0_dev26_eq d0
  · exact k0_dev27_eq d0
  · exact k0_dev28_eq d0
  · exact k0_dev29_eq d0
  · exact k0_dev30_eq d0
  · exact k0_dev31_eq d0

theorem sendDev_sigDev (i j : grid0.Coords) (h2 : k0_cond2 i = 1#1) (h1 : k0_cond1 j = 1#1) (d0 : Dev nD) : sendDev i h2 d0 = sigDev j h1 d0 := rfl

variable (i : grid0.Coords) (X : Memref sig .tc .vmem S128x1024 .f32) (hX : X.IsWhole) (Y : Memref sig .tc .vmem S128x1024 .f32) (hY : Y.IsWhole)
variable (O : Memref sig .tc .vmem S2x1024 .f32) (hO : O.IsWhole) (A : Memref sig .tc .vmem S2x1024 .f32) (hA : A.IsWhole)
variable (C : Memref sig .tc .vmem S32x2x1024 .f32) (hC : C.IsWhole) (s2 s3 : DmaSems sig S32)

set_option maxRecDepth 65536 in
/-- The body at the first grid point. -/
theorem body_first (h1 : k0_cond1 i = 1#1) (h2 : ¬ k0_cond2 i = 1#1) :
    cc0_body (F := F) i X hX Y hY O hO A hA C hC s2 s3
      = .op .deviceId fun d0 => sigLoop (sigDev i h1 d0) offs >>= fun _ => accum i X Y A (.ret ⟨⟩) := by
  rw [cc0_body_eq_skeleton]; unfold cc0_body_skel
  simp only [k0_part27_eq_skeleton, k0_part27_skel, dif_pos h1, dif_neg h2]
  rfl

set_option maxRecDepth 65536 in
/-- The body at a grid point between the first and the last. -/
theorem body_mid (h1 : ¬ k0_cond1 i = 1#1) (h2 : ¬ k0_cond2 i = 1#1) :
    cc0_body (F := F) i X hX Y hY O hO A hA C hC s2 s3 = .op .deviceId fun d0 => accum i X Y A (.ret ⟨⟩) := by
  rw [cc0_body_eq_skeleton]; unfold cc0_body_skel
  simp only [k0_part27_eq_skeleton, k0_part27_skel, dif_neg h1, dif_neg h2]
  rfl

set_option maxRecDepth 65536 in
/-- The body at the last grid point. -/
theorem body_last (h1 : ¬ k0_cond1 i = 1#1) (h2 : k0_cond2 i = 1#1) :
    cc0_body (F := F) i X hX Y hY O hO A hA C hC s2 s3
      = .op .deviceId fun d0 => accum i X Y A (tail i h2 d0 A hA C s2 s3 O (sendDev i h2 d0)) := by
  rw [cc0_body_eq_skeleton]; unfold cc0_body_skel
  simp only [k0_part27_eq_skeleton, k0_part27_skel, dif_neg h1, dif_pos h2]
  rfl

end Cert.KernelIdealProof

end
-- ==== Proof.KI.Proto.lean ====
/-
# The exchange protocol of the 32 devices

One round on every cell. For each device `c`, `r` an offset, `peer c r` the device `r + 1` steps on, `r.rev` the offset
that leads back (`peer (peer c r) r.rev = c`):

* barrier cell of `c`: duty `r`, one unit, paid by `peer c r` at its first grid point; it hands `c` the slot `c` of
  `peer c r`'s exchange buffer, at any contents. `c` waits for all 31 at its last grid point.
* receive cell `q` of `c` (`q ≠ c`): one duty, one slot's credit, paid by `q`'s copy; it hands `c` its own slot `q`
  holding `q`'s accumulated rows.
* send cell `q` of `c` (`q ≠ c`): one duty, one slot's credit, paid by the departure of `c`'s copy to `q`; it hands back
  the share of `c`'s accumulator that the copy read.
* the cells `c` of `c`'s two arrays of semaphores have no duty.
-/
module

public import proofs.«01_k».proof.Proof.KI.Loop
public import proofs.«01_k».proof.Proof.Gen.KernelIdeal.Frame
public import Idealize.ShloMosaic.Lib.Pipeline.Launch
public import Idealize.ShloMosaic.Lib.Pipeline.Kit
public import Idealize.ShloMosaic.Lib.Pipeline.TableIdle
public import Idealize.ShloMosaic.Lib.Rounds.Family
public import Idealize.ShloMosaic.Lib.Transfers
public import Idealize.ShloMosaic.Lib.ViewIndex
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

theorem dlt (c : Dev nD) : c.val < 32 := c.isLt

theorem peer_rev (c : Dev nD) (r : Fin 31) : peer (peer c r) r.rev = c :=
  Fin.ext (by simp only [peer, Fin.val_rev]; have := dlt c; have := r.isLt; omega)

theorem peer_ne (c : Dev nD) (r : Fin 31) : peer c r ≠ c := fun h => by
  have h := congrArg Fin.val h; simp only [peer] at h; have := dlt c; have := r.isLt; omega

theorem peer_inj (c : Dev nD) {r s : Fin 31} (h : peer c r = peer c s) : r = s := by
  have h := congrArg Fin.val h; simp only [peer] at h
  have := dlt c; have := r.isLt; have := s.isLt; exact Fin.ext (by omega)

theorem peer_eq_iff {c d : Dev nD} {r : Fin 31} : peer d r = c ↔ d = peer c r.rev :=
  ⟨fun h => by rw [← h, peer_rev], fun h => by rw [h]; have := peer_rev c r.rev; rwa [Fin.rev_rev] at this⟩

/-- Every device seen from `c`: itself, or one of its peers. -/
def around (c : Dev nD) : Option (Fin 31) → Dev nD
  | none => c
  | some r => peer c r

theorem around_bij (c : Dev nD) : Function.Bijective (around c) := by
  constructor
  · rintro (_ | r) (_ | s) h
    · rfl
    · exact absurd h.symm (peer_ne c s)
    · exact absurd h (peer_ne c r)
    · exact congrArg some (peer_inj c h)
  · intro q
    by_cases h : q = c
    · exact ⟨none, h.symm⟩
    · have hq : q.val ≠ c.val := fun e => h (Fin.ext e)
      have := dlt c; have := dlt q
      exact ⟨some ⟨(q.val + 31 - c.val) % 32, by omega⟩, Fin.ext (by simp only [around, peer]; omega)⟩

def aroundE (c : Dev nD) : Option (Fin 31) ≃ Dev nD := Equiv.ofBijective (around c) (around_bij c)

/-- The pairs (device, offset), each sent to the peer and the offset back. -/
def swapE : Dev nD × Fin 31 ≃ Dev nD × Fin 31 where
  toFun x := (peer x.1 x.2, x.2.rev)
  invFun x := (peer x.1 x.2, x.2.rev)
  left_inv x := by simp only [peer_rev, Fin.rev_rev]
  right_inv x := by simp only [peer_rev, Fin.rev_rev]

/-! ## The resource algebra -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

section Big
omit [FloatOps F]

theorem bigSep_option {I : Type} [Fintype I] [DecidableEq I] (Φ : Option I → sProp 𝕄) :
    bigSep Finset.univ Φ = iprop(Φ none ∗ bigSep Finset.univ fun i => Φ (some i)) := by
  rw [show (Finset.univ : Finset (Option I)) = insert none (Finset.univ.map Function.Embedding.some) from by
    ext x; cases x <;> simp]
  exact (bigSep_insert (by simp)).trans (by rw [bigSep_map]; rfl)

theorem bigSep_bool (Φ : Bool → sProp 𝕄) : bigSep Finset.univ Φ = iprop(Φ false ∗ Φ true) :=
  bigSep_univ_eq_bigSepL [false, true] (by decide) (by decide) Φ

theorem bigSep_offs (Φ : Fin 31 → sProp 𝕄) : bigSep Finset.univ Φ = bigSepL offs Φ :=
  bigSep_univ_eq_bigSepL offs (by decide) (by decide) Φ

theorem bigSep_dev (c : Dev nD) (Φ : Dev nD → sProp 𝕄) :
    bigSep Finset.univ Φ = iprop(Φ c ∗ bigSepL offs fun r => Φ (peer c r)) := by
  rw [bigSep_univ_equiv (aroundE c), bigSep_option, bigSep_offs]; rfl

end Big

/-! ## The cells -/

/-- The kinds of cell of a device: its barrier, or the cell `q` of its send (`false`) or receive (`true`) semaphores. -/
abbrev Kd : Type := Option (Bool × Dev nD)

abbrev dsem (k : Bool × Dev nD) : DmaSem sig :=
  match k with
  | (false, q) => ⟨5 + q.val, by have := dlt q; show _ < 69; omega⟩
  | (true, q) => ⟨37 + q.val, by have := dlt q; show _ < 69; omega⟩

/-- The kernel's own semaphores, as the launch indexes them. -/
abbrev osem (k : Bool × Dev nD) : SemLoc sig := .dma (dsem k)

@[reducible] def csem : Kd → SemLoc sig
  | none => .reg barS
  | some k => osem k

def dec : SemLoc sig → Option Kd
  | .reg _ => some none
  | .dma s => if h : 5 ≤ s.val ∧ s.val < 37 then some (some (false, ⟨s.val - 5, by show _ < 32; omega⟩))
      else if h : 37 ≤ s.val ∧ s.val < 69 then some (some (true, ⟨s.val - 37, by show _ < 32; omega⟩)) else none

theorem dec_csem (k : Kd) : dec (csem k) = some k := by
  rcases k with _ | ⟨_ | _, q⟩
  · rfl
  · have := dlt q
    simp only [csem, osem, dsem, dec]
    rw [dif_pos (by constructor <;> omega)]
    exact congrArg (fun x => some (some (false, x))) (Fin.ext (by simp only; omega))
  · have := dlt q
    simp only [csem, osem, dsem, dec]
    rw [dif_neg (by omega), dif_pos (by constructor <;> omega)]
    exact congrArg (fun x => some (some (true, x))) (Fin.ext (by simp only; omega))

theorem csem_inj : Function.Injective csem := fun a b h => Option.some.inj (by rw [← dec_csem, h, dec_csem])

abbrev kcell (x : Dev nD × Kd) : GSem nD τ sig := ((x.1 : Thread nD τ), csem x.2)
abbrev barCell (c : Dev nD) : GSem nD τ sig := kcell (c, none)
abbrev sendCell (c q : Dev nD) : GSem nD τ sig := kcell (c, some (false, q))
abbrev recvCell (c q : Dev nD) : GSem nD τ sig := kcell (c, some (true, q))

theorem kcell_inj : Function.Injective (kcell : Dev nD × Kd → GSem nD τ sig) := by
  rintro ⟨c, k⟩ ⟨c', k'⟩ h
  have h1 : c = c' := congrArg (fun g : GSem nD τ sig => g.1.1) h
  have h2 : k = k' := csem_inj (congrArg Prod.snd h)
  rw [h1, h2]

/-! ## The buffers -/

abbrev accM : Memref sig .tc .vmem S2x1024 .f32 := Memref.whole cc0_scratch0
abbrev comM : Memref sig .tc .vmem S32x2x1024 .f32 := Memref.whole cc0_scratch1

theorem slot_inb (q : Dev nD) : ∀ a, (![q.val, 0, 0] : Fin 3 → ℕ) a + S1x2x1024.size a ≤ S32x2x1024.size a := by
  intro a; have := dlt q; fin_cases a
  · show q.val + 1 ≤ 32; omega
  · show 0 + 2 ≤ 2; omega
  · show 0 + 1024 ≤ 1024; omega

abbrev slotR (q : Dev nD) : Rect S32x2x1024 := Rect.unit (s := S32x2x1024) ![q.val, 0, 0] S1x2x1024.size (slot_inb q)

/-- Slot `q` of the exchange buffer. -/
abbrev slotM (q : Dev nD) : Memref sig .tc .vmem S2x1024 .f32 :=
  (comM.slice (slotR q) (fun _ => rfl)).squeeze S2x1024 squeezes_S1x2x1024_S2x1024

/-- One slot's credit. -/
abbrev N : ℕ := (accM : Memref sig .tc .vmem S2x1024 .f32).view.dmaCredit
theorem N_pos : 0 < N := View.dmaCredit_pos _ (by decide)

/-- What a buffer of the accumulator's shape holds. -/
abbrev Rows (F : FTy → Type) : Type := S2x1024.Idx → Elt F .f32

variable (Z : Dev nD → Rows F)

/-! ## The schedule -/

def barPay (c : Dev nD) (r : Fin 31) : sProp 𝕄 := iprop(∃ X : Rows F, owns (peer c r : Thread nD τ) (slotM c) fullShare X)
def recvPay (c q : Dev nD) : sProp 𝕄 := owns (c : Thread nD τ) (slotM q) fullShare (Z q)
def sendPay (c : Dev nD) (r : Fin 31) : sProp 𝕄 := owns (c : Thread nD τ) accM (Transfers.shareTok fullShare 31 r) (Z c)

def Rd : Rounds.Schedule (GSem nD τ sig) (Fin 31) 𝕄 where
  duties g r := if r = 0 ∧ g.1.2 = .tc then
      (match dec g.2 with
        | some none => Finset.univ
        | some (some (_, q)) => Finset.univ.filter (fun s => peer g.1.1 s = q)
        | none => ∅) else ∅
  unitless _ := False
  amount g _ _ := match dec g.2 with | some none => 1 | _ => N
  payload g _ d := match dec g.2 with
    | some none => barPay g.1.1 d
    | some (some (false, _)) => sendPay Z g.1.1 d
    | some (some (true, q)) => recvPay Z g.1.1 q
    | none => iprop(emp)
  amount_pos g _ _ _ := by
    split
    · exact Nat.one_pos
    · exact N_pos

omit [FloatOps F] in
instance Rd_payload_storable (g : GSem nD τ sig) (r : ℕ) (d : Fin 31) :
    BI.Storable (upEmb : UEmb _ 𝕄) ((Rd (F := F) Z).payload g r d) := by
  show BI.Storable upEmb (match dec g.2 with
    | some none => barPay (F := F) g.1.1 d
    | some (some (false, _)) => sendPay Z g.1.1 d
    | some (some (true, q)) => recvPay Z g.1.1 q
    | none => iprop(emp))
  unfold barPay recvPay sendPay
  split <;> infer_instance

section Sched
omit [FloatOps F]
variable (c q : Dev nD) (r : Fin 31)

theorem duties_bar : (Rd (F := F) Z).duties (barCell c) 0 = Finset.univ := by
  dsimp only [Rd, kcell]; rw [dec_csem]; exact if_pos ⟨rfl, rfl⟩
theorem filter_peer : Finset.univ.filter (fun s => peer c s = peer c r) = {r} := by
  ext s; simp only [Finset.mem_filter, Finset.mem_univ, true_and, Finset.mem_singleton]
  exact ⟨peer_inj c, fun h => by rw [h]⟩
theorem duties_dma (b : Bool) : (Rd (F := F) Z).duties (kcell (c, some (b, peer c r))) 0 = {r} := by
  dsimp only [Rd, kcell]; rw [dec_csem, if_pos ⟨rfl, rfl⟩]; exact filter_peer c r
theorem duties_own (b : Bool) (n : ℕ) : (Rd (F := F) Z).duties (kcell (c, some (b, c))) n = ∅ := by
  dsimp only [Rd, kcell]; rw [dec_csem]
  split
  · exact Finset.filter_eq_empty_iff.mpr fun s _ => peer_ne c s
  · rfl
theorem duties_later (g : GSem nD τ sig) : ∀ n, 1 ≤ n → (Rd (F := F) Z).duties g n = ∅ :=
  fun n hn => by dsimp only [Rd]; rw [if_neg fun h => by omega]

theorem amount_bar (d : Fin 31) : (Rd (F := F) Z).amount (barCell c) 0 d = 1 := by dsimp only [Rd, kcell]; rw [dec_csem]
theorem amount_dma (k : Bool × Dev nD) (d : Fin 31) : (Rd (F := F) Z).amount (kcell (c, some k)) 0 d = N := by
  dsimp only [Rd, kcell]; rw [dec_csem]

theorem payload_bar (d : Fin 31) : (Rd (F := F) Z).payload (barCell c) 0 d = barPay c d := by dsimp only [Rd, kcell]; rw [dec_csem]
theorem payload_send (d : Fin 31) : (Rd (F := F) Z).payload (sendCell c q) 0 d = sendPay Z c d := by dsimp only [Rd, kcell]; rw [dec_csem]
theorem payload_recv (d : Fin 31) : (Rd (F := F) Z).payload (recvCell c q) 0 d = recvPay Z c q := by dsimp only [Rd, kcell]; rw [dec_csem]

theorem expect_bar : (Rd (F := F) Z).expect (barCell c) 0 = 31 := by
  unfold Schedule.expect Schedule.amountOf
  rw [duties_bar, Finset.sum_congr rfl fun d _ => amount_bar Z c d, Finset.sum_const, Finset.card_univ, Fintype.card_fin, smul_eq_mul]
theorem expect_dma (b : Bool) : (Rd (F := F) Z).expect (kcell (c, some (b, peer c r))) 0 = N := by
  unfold Schedule.expect Schedule.amountOf; rw [duties_dma, Finset.sum_singleton, amount_dma]

theorem rest_bar : bigSep ((Rd (F := F) Z).duties (barCell c) 0 \ ∅) (fun d => (Rd (F := F) Z).payload (barCell c) 0 d)
    = bigSepL offs fun r => barPay c r := by
  rw [Finset.sdiff_empty, duties_bar, bigSep_offs]; simp only [payload_bar]
theorem rest_send : bigSep ((Rd (F := F) Z).duties (sendCell c (peer c r)) 0 \ ∅) (fun d => (Rd (F := F) Z).payload (sendCell c (peer c r)) 0 d)
    = sendPay Z c r := by
  rw [Finset.sdiff_empty, duties_dma, bigSep_singleton, payload_send]
theorem rest_recv : bigSep ((Rd (F := F) Z).duties (recvCell c (peer c r)) 0 \ ∅) (fun d => (Rd (F := F) Z).payload (recvCell c (peer c r)) 0 d)
    = recvPay Z c (peer c r) := by
  rw [Finset.sdiff_empty, duties_dma, bigSep_singleton, payload_recv]

end Sched

/-! ## What a device owes; the levels -/

/-- A slot's credit to the receive cell `c` of each listed peer; -/
def owedR (c : Dev nD) : List (Fin 31) → CellTallies nD τ sig Unit
  | [] => 0
  | r :: l => owedR c l + tallyAt (recvCell (peer c r) c) () N
/-- a unit to the barrier of each listed peer. -/
def owedB (c : Dev nD) : List (Fin 31) → CellTallies nD τ sig Unit
  | [] => 0
  | r :: l => owedB c l + tallyAt (barCell (peer c r)) () 1

def O₀ (c : Dev nD) : CellTallies nD τ sig Unit := owedR c offs + owedB c offs

def L (g : GSem nD τ sig) : Finset Unit := if g.1.2 = .tc then {()} else ∅
/-- Barrier cells at 1, receive cells at 2, everything else at 0. -/
def lv (g : GSem nD τ sig) (_ : Unit) : ℕ := match dec g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g h : GSem nD τ sig} {u : Unit} {n : ℕ} (hp : 0 < (tallyAt h () n : CellTallies nD τ sig Unit) g u) : g = h := by
  rw [tallyAt_apply] at hp
  by_contra hn
  rw [if_neg (fun h' => hn h'.1)] at hp
  exact Nat.lt_irrefl 0 hp

theorem owedR_pos {c : Dev nD} {g : GSem nD τ sig} {u : Unit} : ∀ {l : List (Fin 31)}, 0 < owedR c l g u → ∃ p q, g = recvCell p q
  | [], h => absurd h (by simp [owedR])
  | r :: l, h => by
    rw [owedR, Pi.add_apply, Finsupp.add_apply] at h
    rcases Nat.eq_zero_or_pos (owedR c l g u) with h0 | h0
    · rw [h0, Nat.zero_add] at h; exact ⟨_, _, tally_pos h⟩
    · exact owedR_pos h0
theorem owedB_pos {c : Dev nD} {g : GSem nD τ sig} {u : Unit} : ∀ {l : List (Fin 31)}, 0 < owedB c l g u → ∃ p, g = barCell p
  | [], h => absurd h (by simp [owedB])
  | r :: l, h => by
    rw [owedB, Pi.add_apply, Finsupp.add_apply] at h
    rcases Nat.eq_zero_or_pos (owedB c l g u) with h0 | h0
    · rw [h0, Nat.zero_add] at h; exact ⟨_, tally_pos h⟩
    · exact owedB_pos h0

theorem O₀_pos {c : Dev nD} {g : GSem nD τ sig} {u : Unit} (h : 0 < O₀ c g u) : (∃ p q, g = recvCell p q) ∨ ∃ p, g = barCell p := by
  rw [O₀, Pi.add_apply, Finsupp.add_apply] at h
  rcases Nat.eq_zero_or_pos (owedR c offs g u) with h0 | h0
  · rw [h0, Nat.zero_add] at h; exact .inr (owedB_pos h)
  · exact .inl (owedR_pos h0)

theorem lv_bar (p : Dev nD) : lv (barCell p) () = 1 := by dsimp only [lv, kcell]; rw [dec_csem]
theorem lv_recv (p q : Dev nD) : lv (recvCell p q) () = 2 := by dsimp only [lv, kcell]; rw [dec_csem]

omit [FloatOps F] in
theorem mayWait_of (c : Dev nD) (sm : SemLoc sig) (b : ℕ) (hb : lv ((c : Thread nD τ), sm) () ≤ b) (O : CellTallies nD τ sig Unit)
    (hO : ∀ (g : GSem nD τ sig) u, 0 < O g u → u ∈ L g ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u h => (hO g u h).1) (fun p hp => by rw [Finset.mem_singleton.mp hp]; exact hb) (fun g u h => (hO g u h).2)

omit [FloatOps F] in
/-- A staging semaphore may be waited for whatever the device owes. -/
theorem mayWait_stage (c : Dev nD) (q : DmaSem sig) (hq : lv ((c : Thread nD τ), .dma q) () = 0) (O : CellTallies nD τ sig Unit)
    (hO : O = O₀ c ∨ O = owedR c offs ∨ O = 0) :
    (levAts L lv : sProp 𝕄) ⊢ MayWait (c : Thread nD τ) (.dma q) () O := by
  rcases hO with rfl | rfl | rfl
  · refine mayWait_of c _ 0 (le_of_eq hq) _ fun g u h => ?_
    rcases O₀_pos h with ⟨p, q, rfl⟩ | ⟨p, rfl⟩
    · exact ⟨by rw [L_tc]; exact Finset.mem_singleton_self _, by rw [lv_recv]; decide⟩
    · exact ⟨by rw [L_tc]; exact Finset.mem_singleton_self _, by rw [lv_bar]; decide⟩
  · refine mayWait_of c _ 0 (le_of_eq hq) _ fun g u h => ?_
    obtain ⟨p, q, rfl⟩ := owedR_pos h
    exact ⟨by rw [L_tc]; exact Finset.mem_singleton_self _, by rw [lv_recv]; decide⟩
  · rw [MayWait_zero]; iintro -; iempintro

omit [FloatOps F] in
/-- The barrier may be waited for while the device owes its copies. -/
theorem mayWait_bar (c : Dev nD) : (levAts L lv : sProp 𝕄) ⊢ MayWait (c : Thread nD τ) (.reg barS) () (owedR c offs) :=
  mayWait_of c _ 1 (le_of_eq (lv_bar c)) _ fun g u h => by
    obtain ⟨p, q, rfl⟩ := owedR_pos h
    exact ⟨by rw [L_tc]; exact Finset.mem_singleton_self _, by rw [lv_recv]; decide⟩

end Cert.KernelIdealProof

end
-- ==== Proof.KI.Steps.lean ====
/-
# The loops of the body under the protocol

One lemma for each of the four unrolled families, by induction over the list of offsets: what the family takes per
offset, and what it leaves per offset.
-/
module

public import proofs.«01_k».proof.Proof.KI.Proto
public import Idealize.ShloMosaic.Lib.VecWindow
public import Idealize.ShloMosaic.Lib.Pipeline.BigSepL

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Whole accesses of an owned memref -/

theorem wp_load_own (c : Dev nD) {s : Shape} {α : Type} {Q : α → sProp 𝕄} (M : Memref sig .tc .vmem s .f32) {off : Fin s.rank → ℕ} {inb : ∀ a, off a + s.size a ≤ s.size a} {q : PosShare TreeShare}
    {X : s.Idx → Elt F .f32} {hl : M.view.LoadsAt (Rect.unit off s.size inb).toLoadRect} {k : (s.Idx → Elt F .f32) → Prog (TpuEff nD τ sig (Elt F) Λ₀ .tc) α} :
    owns (c : Thread nD τ) M q X
      ⊢ iprop((owns (c : Thread nD τ) M q X -∗ wp frame (wpE (defs₀ (F := F)) 𝒱₀ (c : Thread nD τ) none) Set.univ (k X) Q)
          -∗ wp frame (wpE (defs₀ (F := F)) 𝒱₀ (c : Thread nD τ) none) Set.univ (.op (.load M (Rect.unit off s.size inb).toLoadRect hl) k) Q) := by
  rw [owns_eq_rep]
  have h := wp_load (defs := defs₀ (F := F)) (Γ := .empty) 𝒱₀ (c : Thread nD τ) none Set.univ (Q := Q) (m := M) (r := (Rect.unit off s.size inb).toLoadRect) (hl := hl) (k := k) (q := q)
    (f := M.view.rep X) (S := M.view.set) (View.setOn_subset_set _ _)
  rwa [View.readAt_rep_full] at h

theorem wp_store_own (c : Dev nD) {s : Shape} {α : Type} {Q : α → sProp 𝕄} (M : Memref sig .tc .vmem s .f32) {off : Fin s.rank → ℕ} {inb : ∀ a, off a + s.size a ≤ s.size a}
    {X w : s.Idx → Elt F .f32} {hx : (M.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig (Elt F) Λ₀ .tc) α} :
    owns (c : Thread nD τ) M fullShare X
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit off s.size inb) w Finset.univ hx hm) k) Q) := by
  rw [owns_eq_rep]
  refine (wp_store (defs := defs₀ (F := F)) 𝒱₀ (c : Thread nD τ) none Set.univ (Q := Q) (m := M) (r := Rect.unit off s.size inb) (w := w) (Mk := Finset.univ) (hx := hx) (hm := hm)
    (k := k) (f := M.view.rep X) (S := M.view.set) (Memref.setOn_access_subset _ _ _)).trans (wand_mono_left (wand_mono_left ?_))
  unfold owns
  iintro H
  iexists (M.access (Rect.unit off s.size inb)).write (Elt F) (M.view.rep X) w Finset.univ
  isplitr
  · ipureintro
    exact (View.read_writes_full M.view (M.view.rep X) inb w [])
  · iexact H

/-! ## What every device knows -/

variable (Z : Dev nD → Rows F) (K : Dev nD × Kd → ℕ)

/-- Every cell's invariant, and that every cell has reached round 0. -/
def records : sProp 𝕄 :=
  iprop((bigSep Finset.univ fun ck : Dev nD × Kd => cellInv ER (Rd Z) (K ck) (kcell ck))
    ∗ bigSep Finset.univ fun ck : Dev nD × Kd => reached ER (kcell ck) 0)

omit [FloatOps F] in
instance records_persistent : BI.Persistent (records Z K) := by unfold records; infer_instance

omit [FloatOps F] in
theorem inv_at (ck : Dev nD × Kd) : records Z K ⊢ cellInv ER (Rd Z) (K ck) (kcell ck) := by
  unfold records
  exact sep_elim_left.trans (bigSep_elim (Finset.mem_univ ck))
omit [FloatOps F] in
theorem reached_at (ck : Dev nD × Kd) : records Z K ⊢ reached ER (kcell ck) 0 := by
  unfold records
  exact sep_elim_right.trans (bigSep_elim (Finset.mem_univ ck))

/-! ## The printed semaphores and slots -/

/-- Position `q` of an array of 32. -/
def at32 (q : Dev nD) : S32.Idx := fun a => ⟨q.val, by fin_cases a; exact dlt q⟩

theorem sem_at (s : DmaSems sig S32) (q : Dev nD) {off : Fin 1 → ℕ} (h : off = ![q.val]) (inb : ∀ a, off a + S1.size a ≤ S32.size a) :
    ((s.slice (Rect.unit (s := S32) off S1.size inb)).squeeze S_ squeezes_S1_S_).sem = s.ix (at32 q) := by
  subst h
  show s.ix _ = s.ix _
  congr 1
  funext a
  fin_cases a
  apply Fin.ext
  show q.val + 1 * _ = q.val
  rw [Nat.one_mul]
  exact Nat.add_eq_left.mpr (Nat.lt_one_iff.mp (Fin.isLt _))

theorem ix_send (q : Dev nD) : (cc0_scratch2 : DmaSems sig S32).ix (at32 q) = dsem (false, q) := by
  revert q; decide
theorem ix_recv (q : Dev nD) : (cc0_scratch3 : DmaSems sig S32).ix (at32 q) = dsem (true, q) := by
  revert q; decide

theorem slot_at (q : Dev nD) {off : Fin 3 → ℕ} (h : off = ![q.val, 0, 0]) (inb : ∀ a, off a + S1x2x1024.size a ≤ S32x2x1024.size a) :
    (comM.slice (Rect.unit (s := S32x2x1024) off S1x2x1024.size inb) (fun _ => rfl)).squeeze S2x1024 squeezes_S1x2x1024_S2x1024 = slotM q := by
  subst h; rfl

section Printed
variable (i : grid0.Coords) (h2 : k0_cond2 i = 1#1) (c : Dev nD) (r : Fin 31)

theorem off_peer : k0_off1 c (BitVec.ofNat 32 (1 + r.val)) = ![(peer c r).val] := k0_off1_eq c r
theorem semAt_send : semAt i h2 c cc0_scratch2 r = dsem (false, peer c r) := (sem_at _ _ (off_peer c r) _).trans (ix_send _)
theorem semAt_recv : semAt i h2 c cc0_scratch3 r = dsem (true, peer c r) := (sem_at _ _ (off_peer c r) _).trans (ix_recv _)
theorem semOwn_recv : semOwn i h2 c cc0_scratch3 = dsem (true, c) := (sem_at _ _ (k0_off2_eq c) _).trans (ix_recv _)
theorem slotOwn_eq : slotOwn i h2 c comM = slotM c := slot_at c (k0_off3_eq c) _
theorem slotAt_eq : slotAt i h2 c comM r = slotM (peer c r) := slot_at (peer c r) (k0_off5_eq c r) _

end Printed

/-! ## The signals -/

omit [FloatOps F] in
theorem barPay_back (c : Dev nD) (r : Fin 31) :
    (barPay (peer c r) r.rev : sProp 𝕄) = iprop(∃ X : Rows F, owns (c : Thread nD τ) (slotM (peer c r)) fullShare X) := by
  unfold barPay; rw [peer_rev]

/-- What the signal at offset `r` takes. -/
def sigPre (c : Dev nD) (r : Fin 31) : sProp 𝕄 :=
  iprop(dutyTok ER (barCell (peer c r)) 0 r.rev ∗ ∃ X : Rows F, owns (c : Thread nD τ) (slotM (peer c r)) fullShare X)

theorem sig_loop (c : Dev nD) (R : CellTallies nD τ sig Unit) (W : Waits sig Unit) {α : Type} {Q : α → sProp 𝕄}
    (k : PUnit → Prog (TpuEff nD τ sig (Elt F) Λ₀ .tc) α) : (l : List (Fin 31)) →
    iprop(records Z K ∗ owes (c : Thread nD τ) (R + owedB c l) W ∗ bigSepL l (sigPre c))
      ⊢ iprop((owes (c : Thread nD τ) R W -∗ wp frame (wpE (defs₀ (F := F)) 𝒱₀ (c : Thread nD τ) none) Set.univ (k ⟨⟩) Q)
          -∗ wp frame (wpE (defs₀ (F := F)) 𝒱₀ (c : Thread nD τ) none) Set.univ (sigLoop (peer c) l >>= k) Q)
  | [] => by
    simp only [sigLoop, Prog.bind_ret, owedB, add_zero]
    iintro ⟨-, HO, -⟩ Hk
    iapply Hk; iexact HO
  | r :: l => by
    rw [bigSepL_cons']
    simp only [sigLoop, semSignalWord, Prog.lift, Prog.bind_op, Prog.bind_ret, Prog.pure_eq_ret]
    have ih := sig_loop c R W (Q := Q) k l
    unfold sigPre at ih ⊢
    iintro ⟨#HR, HO, ⟨Htok, Hslot⟩, Hl⟩ Hk
    iapply (Rounds.wp_signal 𝒱₀ ER (Rd Z) (c : Thread nD τ) none (dst := (peer c r : Thread nD τ)) (κ := K (peer c r, none))
      (d := r.rev) (by rw [duties_bar]; exact Finset.mem_univ _) ((amount_bar Z (peer c r) r.rev).trans (by decide)) ()
      (R + owedB c l) (show R + (owedB c l + tallyAt (barCell (peer c r)) () 1) = _ from (add_assoc _ _ _).symm)) $$ [HO Htok Hslot]
    · isplitr; · iapply (inv_at Z K (peer c r, none)); iexact HR
      isplitl [HO]; · iexact HO
      isplitl [Htok]; · iexact Htok
      isplitl [Hslot]
      · rw [payload_bar, barPay_back]; iexact Hslot
      iapply (reached_at Z K (peer c r, none)); iexact HR
    iintro HO
    iapply ih $$ [HO Hl]
    · isplitr; · iexact HR
      isplitl [HO] <;> iassumption
    iexact Hk

/-! ## The copies -/

omit [FloatOps F] in
theorem duties_recv_back (c : Dev nD) (r : Fin 31) : (Rd (F := F) Z).duties (recvCell (peer c r) c) 0 = {r.rev} := by
  have h := duties_dma (F := F) Z (peer c r) r.rev true; rwa [peer_rev] at h

/-- What the copy at offset `r` takes: the two duties, the slot it lands on, a share of the accumulator. -/
def sendPre (c : Dev nD) (r : Fin 31) : sProp 𝕄 :=
  iprop(dutyTok ER (sendCell c (peer c r)) 0 r ∗ dutyTok ER (recvCell (peer c r) c) 0 r.rev ∗ barPay c r ∗ sendPay Z c r)

theorem send_step (c : Dev nD) (r : Fin 31) (l : List (Fin 31)) (W : Waits sig Unit) (M : Memref sig .tc .vmem S2x1024 .f32) (hM : M = slotM c)
    (a b : DmaSem sig) (ha : a = dsem (false, peer c r)) (hb : b = dsem (true, c))
    {hsc : (M : Memref sig (Dev.tc (peer c r) : Thread nD τ).2.kind .vmem S2x1024 .f32).view.ref.isScScratch = false}
    {hsrc : (accM : Memref sig .tc .vmem S2x1024 .f32).view.WordExact} {hdst : M.view.WordExact}
    {hsem : DmaTarget.Typed .vmem (.dma b) (.remote (Dev.tc (peer c r) : Thread nD τ) (M : Memref sig .tc .vmem S2x1024 .f32) (.dma a) hsc)}
    {α : Type} {Q : α → sProp 𝕄} {k : PUnit → Prog (TpuEff nD τ sig (Elt F) Λ₀ .tc) α} :
    iprop(records Z K ∗ owes (c : Thread nD τ) (owedR c (r :: l)) W ∗ sendPre Z c r)
      ⊢ iprop(((cred (tallyAt (sendCell c (peer c r)) () N) ∗ owes (c : Thread nD τ) (owedR c l) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma accM (.remote (Dev.tc (peer c r) : Thread nD τ) M (.dma a) hsc) (.dma b) hsrc hdst hsem) k) Q) := by
  subst hM ha hb
  unfold sendPre barPay sendPay
  iintro ⟨#HR, HO, HtS, HtV, ⟨%X, Hslot⟩, Hacc⟩
  ihave Hslot' := (rep_of_owns (peer c r : Thread nD τ) (slotM c) fullShare X) $$ Hslot
  ihave Hacc' := (rep_of_owns (c : Thread nD τ) accM (Transfers.shareTok fullShare 31 r) (Z c)) $$ Hacc
  iapply (Rounds.wp_send_pointsTo 𝒱₀ ER (Rd Z) (c : Thread nD τ) none (c' := (peer c r : Thread nD τ)) (src := accM) (dst := slotM c)
    (sS := .dma (dsem (false, peer c r))) (sem := .dma (dsem (true, c)))
    (κ₁ := K (c, some (false, peer c r))) (κ₂ := K (peer c r, some (true, c)))
    (r₁ := 0) (r₂ := 0) (d₁ := r) (d₂ := r.rev) (fs := (accM : Memref sig .tc .vmem S2x1024 .f32).view.rep (Z c)) (fd := (slotM c).view.rep X)
    (q := Transfers.shareTok fullShare 31 r)
    ((duties_dma Z c r false).symm ▸ Finset.mem_singleton_self r) ((duties_recv_back Z c r).symm ▸ Finset.mem_singleton_self r.rev)
    () () N rfl (amount_dma Z c (false, peer c r) r) (amount_dma Z (peer c r) (true, c) r.rev) (owedR c l) rfl (W := W)
    ((owns_of_rep (c : Thread nD τ) accM _ (Z c)).trans (Entails.of_eq (payload_send Z c (peer c r) r).symm))
    ((show iprop((slotM c).view.loc (peer c r : Thread nD τ) ↦[(slotM c).view.set]{fullShare} (slotM c).view.write (Elt F) ((slotM c).view.rep X) ((accM : Memref sig .tc .vmem S2x1024 .f32).view.read (Elt F) ((accM : Memref sig .tc .vmem S2x1024 .f32).view.rep (Z c))) Finset.univ) ⊢ recvPay Z (peer c r) c from by
      unfold recvPay owns
      rw [View.read_rep]
      iintro H; iexists ((slotM c).view.write (Elt F) ((slotM c).view.rep X) (Z c) Finset.univ); isplitr; · ipureintro; exact View.read_write_univ _ _
      iexact H).trans (Entails.of_eq (payload_recv Z (peer c r) c r.rev).symm)))
  isplitr; · iapply (inv_at Z K (c, some (false, peer c r))); iexact HR
  isplitr; · iapply (inv_at Z K (peer c r, some (true, c))); iexact HR
  isplitl [Hacc']; · iexact Hacc'
  isplitl [Hslot']; · iexact Hslot'
  isplitl [HO]; · iexact HO
  isplitl [HtS]; · iexact HtS
  isplitr; · iapply (reached_at Z K (c, some (false, peer c r))); iexact HR
  isplitl [HtV]; · iexact HtV
  iapply (reached_at Z K (peer c r, some (true, c))); iexact HR

theorem send_loop (i : grid0.Coords) (h2 : k0_cond2 i = 1#1) (c : Dev nD) (hA : (accM : Memref sig .tc .vmem S2x1024 .f32).IsWhole)
    (W : Waits sig Unit) {α : Type} {Q : α → sProp 𝕄}
    (k : PUnit → Prog (TpuEff nD τ sig (Elt F) Λ₀ .tc) α) : (l : List (Fin 31)) →
    iprop(records Z K ∗ owes (c : Thread nD τ) (owedR c l) W ∗ bigSepL l (sendPre Z c))
      ⊢ iprop(((bigSepL l (fun r => cred (tallyAt (sendCell c (peer c r)) () N)) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (sendLoop i h2 c accM hA comM cc0_scratch2 cc0_scratch3 (peer c) l >>= k) Q)
  | [] => by
    simp only [sendLoop, Prog.bind_ret, owedR]
    iintro ⟨-, HO, -⟩ Hk
    iapply Hk
    isplitr; · rw [bigSepL_nil]; iempintro
    iexact HO
  | r :: l => by
    rw [bigSepL_cons', bigSepL_cons']
    simp only [sendLoop, Prog.bind_op]
    have ih := send_loop i h2 c hA W (Q := Q) k l
    iintro ⟨#HR, HO, Hp, Hl⟩ Hk
    iapply (send_step Z K c r l W _ (slotOwn_eq i h2 c) _ _ (semAt_send i h2 c r) (semOwn_recv i h2 c)) $$ [HO Hp]
    · isplitr; · iexact HR
      isplitl [HO] <;> iassumption
    iintro ⟨Hc, HO⟩
    iapply ih $$ [HO Hl]
    · isplitr; · iexact HR
      isplitl [HO] <;> iassumption
    iintro ⟨Hcs, HO⟩
    iapply Hk
    isplitl [Hc Hcs]
    · isplitl [Hc] <;> iassumption
    iexact HO

/-! ## The waits -/

/-- What the wait for a round of a cell takes, -/
def waitPre (g : GSem nD τ sig) : sProp 𝕄 := iprop(cred (tallyAt g () N) ∗ atPos ER g 0 ∅ 0)

theorem recv_loop (i : grid0.Coords) (h2 : k0_cond2 i = 1#1) (c : Dev nD) (hA : (accM : Memref sig .tc .vmem S2x1024 .f32).IsWhole)
    {α : Type} {Q : α → sProp 𝕄}
    (k : PUnit → Prog (TpuEff nD τ sig (Elt F) Λ₀ .tc) α) : (l : List (Fin 31)) →
    iprop(records Z K ∗ (∃ W, owes (c : Thread nD τ) 0 W) ∗ bigSepL l (fun r => waitPre (recvCell c (peer c r))))
      ⊢ iprop(((bigSepL l (fun r => iprop(atPos ER (recvCell c (peer c r)) 1 ∅ 0 ∗ recvPay Z c (peer c r))) ∗ ∃ W, owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (recvLoop i h2 c accM hA comM cc0_scratch3 l >>= k) Q)
  | [] => by
    simp only [recvLoop, Prog.bind_ret]
    iintro ⟨-, HO, -⟩ Hk
    iapply Hk
    isplitr; · rw [bigSepL_nil]; iempintro
    iexact HO
  | r :: l => by
    rw [bigSepL_cons', bigSepL_cons']
    simp only [recvLoop, Prog.bind_op]
    have ih := recv_loop i h2 c hA (Q := Q) k l
    simp only [semAt_recv]
    unfold waitPre at ih ⊢
    iintro ⟨#HR, ⟨%W, HO⟩, ⟨Hc, Hat⟩, Hl⟩ Hk
    iapply (Rounds.wp_wait_rest_token 𝒱₀ ER (Rd Z) (c : Thread nD τ) none (κ := K (c, some (true, peer c r)))
      (wpE_waitDma2_eq 𝒱₀ (c : Thread nD τ) none Set.univ) (Set.mem_univ _) () (O := 0) (W := W) (R := 0) (m := 0) (T := ∅)
      (by rw [Nat.zero_add]; exact (expect_dma Z c r true).symm)) $$ [Hc HO Hat]
    · isplitr; · iapply (inv_at Z K (c, some (true, peer c r))); iexact HR
      isplitl [Hc]; · iexact Hc
      isplitl [HO]; · iexact HO
      isplitr; · rw [MayWait_zero]; iempintro
      iexact Hat
    iintro ⟨HO, Hat, -, Hpay⟩
    ihave Hp := (Entails.of_eq (rest_recv Z c r)) $$ Hpay
    iapply ih $$ [HO Hl]
    · isplitr; · iexact HR
      isplitl [HO]; · iexists _; iexact HO
      iassumption
    iintro ⟨Hls, HO⟩
    iapply Hk
    isplitl [Hat Hp Hls]
    · isplitl [Hat Hp]
      · isplitl [Hat] <;> iassumption
      iexact Hls
    iexact HO

theorem done_loop (i : grid0.Coords) (h2 : k0_cond2 i = 1#1) (c : Dev nD) (hA : (accM : Memref sig .tc .vmem S2x1024 .f32).IsWhole)
    {α : Type} {Q : α → sProp 𝕄}
    (k : PUnit → Prog (TpuEff nD τ sig (Elt F) Λ₀ .tc) α) : (l : List (Fin 31)) →
    iprop(records Z K ∗ (∃ W, owes (c : Thread nD τ) 0 W) ∗ bigSepL l (fun r => waitPre (sendCell c (peer c r))))
      ⊢ iprop(((bigSepL l (fun r => iprop(atPos ER (sendCell c (peer c r)) 1 ∅ 0 ∗ sendPay Z c r)) ∗ ∃ W, owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (doneLoop i h2 c accM hA comM cc0_scratch2 l >>= k) Q)
  | [] => by
    simp only [doneLoop, Prog.bind_ret]
    iintro ⟨-, HO, -⟩ Hk
    iapply Hk
    isplitr; · rw [bigSepL_nil]; iempintro
    iexact HO
  | r :: l => by
    rw [bigSepL_cons', bigSepL_cons']
    simp only [doneLoop, Prog.bind_op]
    have ih := done_loop i h2 c hA (Q := Q) k l
    simp only [semAt_send]
    unfold waitPre at ih ⊢
    iintro ⟨#HR, ⟨%W, HO⟩, ⟨Hc, Hat⟩, Hl⟩ Hk
    iapply (Rounds.wp_wait_rest_token 𝒱₀ ER (Rd Z) (c : Thread nD τ) none (κ := K (c, some (false, peer c r)))
      (wpE_waitDma2_eq 𝒱₀ (c : Thread nD τ) none Set.univ) (Set.mem_univ _) () (O := 0) (W := W) (R := 0) (m := 0) (T := ∅)
      (by rw [Nat.zero_add]; exact (expect_dma Z c r false).symm)) $$ [Hc HO Hat]
    · isplitr; · iapply (inv_at Z K (c, some (false, peer c r))); iexact HR
      isplitl [Hc]; · iexact Hc
      isplitl [HO]; · iexact HO
      isplitr; · rw [MayWait_zero]; iempintro
      iexact Hat
    iintro ⟨HO, Hat, -, Hpay⟩
    ihave Hp := (Entails.of_eq (rest_send Z c r)) $$ Hpay
    iapply ih $$ [HO Hl]
    · isplitr; · iexact HR
      isplitl [HO]; · iexists _; iexact HO
      iassumption
    iintro ⟨Hls, HO⟩
    iapply Hk
    isplitl [Hat Hp Hls]
    · isplitl [Hat Hp]
      · isplitl [Hat] <;> iassumption
      iexact Hls
    iexact HO

end Cert.KernelIdealProof

end
-- ==== Proof.KI.Slots.lean ====
/-
# The accumulator's shares and the exchange buffer's slots

The accumulator is read by 31 copies at once: it is held at 31 shares and a rest. The exchange buffer is its 32 slots.
-/
module

public import proofs.«01_k».proof.Proof.KI.Steps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The accumulator -/

/-- The share the device keeps while its copies read. -/
abbrev keep : PosShare TreeShare := Transfers.shareDrop fullShare 31

theorem acc_rest (Z : Dev nD → Rows F) (c : Dev nD) :
    bigSepL offs (sendPay Z c) = bigSep Finset.univ fun r : Fin 31 =>
      (accM.view.loc (c : Thread nD τ) ↦[(accM : Memref sig .tc .vmem S2x1024 .f32).view.set]{Transfers.shareTok fullShare 31 r} accM.view.rep (Z c) : sProp 𝕄) :=
  (bigSep_offs (sendPay Z c)).symm.trans (congrArg (bigSep Finset.univ) (funext fun r => by unfold sendPay; exact owns_eq_rep _ _ _ _))

theorem acc_shares (Z : Dev nD → Rows F) (c : Dev nD) :
    (owns (c : Thread nD τ) accM fullShare (Z c) : sProp 𝕄)
      ⊣⊢ iprop(owns (c : Thread nD τ) accM keep (Z c) ∗ bigSepL offs (sendPay Z c)) := by
  rw [acc_rest, owns_eq_rep, owns_eq_rep]
  exact Transfers.pointsTo_toks fullShare 31

/-! ## The slots -/

theorem slot_set (q : Dev nD) : (slotM q).view.set = (slotR q).set.map (comM : Memref sig .tc .vmem S32x2x1024 .f32).view.emb := by
  show ((comM.view.slice (slotR q)).reshape _ _).set = _
  rw [View.set_reshape, View.set_slice]

theorem slotR_mem (q : Dev nD) (i : S32x2x1024.Idx) : i ∈ (slotR q).set ↔ (i 0).val = q.val := by
  rw [Rect.mem_set_unit]
  constructor
  · intro h
    have h := h 0
    change q.val ≤ (i 0).val ∧ (i 0).val < q.val + 1 at h
    omega
  · intro h a
    match a with
    | ⟨0, _⟩ => show q.val ≤ (i 0).val ∧ (i 0).val < q.val + 1; omega
    | ⟨1, _⟩ => exact ⟨Nat.zero_le _, by have := (i 1).isLt; exact (Nat.zero_add _).symm ▸ this⟩
    | ⟨2, _⟩ => exact ⟨Nat.zero_le _, by have := (i 2).isLt; exact (Nat.zero_add _).symm ▸ this⟩

theorem slots_cover : (comM : Memref sig .tc .vmem S32x2x1024 .f32).view.set = Finset.univ.biUnion fun q : Dev nD => (slotM q).view.set := by
  have h : (Finset.univ : Finset S32x2x1024.Idx) = Finset.univ.biUnion fun q : Dev nD => (slotR q).set := by
    ext i
    simp only [Finset.mem_univ, Finset.mem_biUnion, true_and, true_iff]
    exact ⟨i 0, (slotR_mem (i 0) i).mpr rfl⟩
  have hs : ∀ (x : (comM : Memref sig .tc .vmem S32x2x1024 .f32).view.ty.Idx) (q : Dev nD), x ∈ (slotM q).view.set ↔ ∃ i ∈ (slotR q).set, comM.view.emb i = x :=
    fun x q => by rw [slot_set]; exact Finset.mem_map
  ext x
  rw [Finset.mem_biUnion]
  show x ∈ Finset.univ.map (comM : Memref sig .tc .vmem S32x2x1024 .f32).view.emb ↔ _
  rw [h, Finset.mem_map]
  constructor
  · intro hx
    obtain ⟨i, hi, e⟩ := hx
    obtain ⟨q, hq, hi⟩ := Finset.mem_biUnion.mp hi
    exact ⟨q, hq, (hs x q).mpr ⟨i, hi, e⟩⟩
  · intro hx
    obtain ⟨q, hq, hx⟩ := hx
    obtain ⟨i, hi, e⟩ := (hs x q).mp hx
    exact ⟨i, Finset.mem_biUnion.mpr ⟨q, hq, hi⟩, e⟩

theorem slots_disj (q : Dev nD) (_ : q ∈ (Finset.univ : Finset (Dev nD))) (p : Dev nD) (_ : p ∈ (Finset.univ : Finset (Dev nD))) (h : q ≠ p) :
    Disjoint (slotM q).view.set (slotM p).view.set := by
  rw [slot_set, slot_set]
  refine (Finset.disjoint_map _).mpr (Finset.disjoint_left.mpr fun i hi hj => h (Fin.ext ?_))
  rw [← (slotR_mem q i).mp hi, (slotR_mem p i).mp hj]

/-- The exchange buffer holding `Z q` in slot `q`. -/
def comVal (Z : Dev nD → Rows F) : S32x2x1024.Idx → Elt F .f32 := fun i => Z (i 0) (fun a => i a.succ)

theorem slot_idx (Z : Dev nD → Rows F) (q : Dev nD) (j : S2x1024.Idx) : comVal (F := F) Z ((slotR q).emb (Shape.reshapeEquiv squeezes_S1x2x1024_S2x1024.numel_eq j)) = Z q j := by
  have e : Shape.reshapeEquiv (s := S1x2x1024) (s' := S2x1024) squeezes_S1x2x1024_S2x1024.numel_eq j = Fin.cons ⟨0, Nat.one_pos⟩ j :=
    Shape.reshapeEquiv_cons_one (n := 2) (d := ![2, 1024]) _ j
  rw [e]
  unfold comVal
  have h0 : ((slotR q).emb (Fin.cons ⟨0, Nat.one_pos⟩ j) 0 : Fin 32) = q := Fin.ext (by
    show q.val + 1 * 0 = q.val; rfl)
  have h1 : (fun a : Fin 2 => (slotR q).emb (Fin.cons ⟨0, Nat.one_pos⟩ j) a.succ) = j := funext fun a => Fin.ext (by
    match a with
    | ⟨0, _⟩ => show 0 + 1 * (j 0).val = (j 0).val; omega
    | ⟨1, _⟩ => show 0 + 1 * (j 1).val = (j 1).val; omega)
  exact congr (congrArg Z h0) h1

theorem slot_some (c q : Dev nD) (f : BufTy.Contents (Elt F) (slotM q).view.ty) :
    ((slotM q).view.loc (c : Thread nD τ) ↦[(slotM q).view.set]{fullShare} f : sProp 𝕄) ⊢ iprop(∃ X : Rows F, owns (c : Thread nD τ) (slotM q) fullShare X) := by
  unfold owns
  iintro H
  iexists (slotM q).view.read (Elt F) f
  iexists f
  isplitr
  · ipureintro; rfl
  iexact H

theorem slots_split (c : Dev nD) (f : BufTy.Contents (Elt F) (comM : Memref sig .tc .vmem S32x2x1024 .f32).view.ty) :
    (comM.view.loc (c : Thread nD τ) ↦[(comM : Memref sig .tc .vmem S32x2x1024 .f32).view.set]{fullShare} f : sProp 𝕄)
      ⊢ bigSep Finset.univ fun q : Dev nD => iprop(∃ X : Rows F, owns (c : Thread nD τ) (slotM q) fullShare X) := by
  rw [slots_cover, pointsTo_biUnion _ _ slots_disj]
  exact bigSep_mono fun q _ => slot_some c q f

theorem slots_join (Z : Dev nD → Rows F) (c : Dev nD) :
    (bigSep Finset.univ fun q : Dev nD => (owns (c : Thread nD τ) (slotM q) fullShare (Z q) : sProp 𝕄))
      ⊢ owns (c : Thread nD τ) comM fullShare (comVal Z) := by
  simp only [owns_eq_rep]
  rw [slots_cover, pointsTo_biUnion _ _ slots_disj]
  refine bigSep_mono fun q _ => Entails.of_eq (pointsTo_congr fun i hi => ?_)
  have hj := (Finset.mem_map.mp hi).choose_spec.2
  generalize (Finset.mem_map.mp hi).choose = j at hj
  subst hj
  rw [View.rep_emb]
  refine Eq.trans ?_ (View.rep_emb (comM : Memref sig .tc .vmem S32x2x1024 .f32).view (comVal Z) ((slotR q).emb (Shape.reshapeEquiv squeezes_S1x2x1024_S2x1024.numel_eq j))).symm
  rw [slot_idx]

/-! ## The device's own slot, through the whole buffer -/

theorem wp_load_slot (c q : Dev nD) {α : Type} {Q : α → sProp 𝕄} {off : Fin 3 → ℕ} (h : off = ![q.val, 0, 0]) (inb : ∀ a, off a + S1x2x1024.size a ≤ S32x2x1024.size a)
    {X : Rows F} {hl : (comM : Memref sig .tc .vmem S32x2x1024 .f32).view.LoadsAt (Rect.unit (s := S32x2x1024) off S1x2x1024.size inb).toLoadRect}
    {k : Prog (TpuEff nD τ sig (Elt F) Λ₀ .tc) α} :
    owns (c : Thread nD τ) (slotM q) fullShare X
      ⊢ iprop((owns (c : Thread nD τ) (slotM q) fullShare X -∗ wp frame (wpE (defs₀ (F := F)) 𝒱₀ (c : Thread nD τ) none) Set.univ k Q)
          -∗ wp frame (wpE (defs₀ (F := F)) 𝒱₀ (c : Thread nD τ) none) Set.univ (.op (.load comM (Rect.unit (s := S32x2x1024) off S1x2x1024.size inb).toLoadRect hl) fun _ => k) Q) := by
  subst h
  rw [owns_eq_rep]
  exact wp_load (defs := defs₀ (F := F)) 𝒱₀ (c : Thread nD τ) none Set.univ (Q := Q) (m := comM) (r := (slotR q).toLoadRect) (hl := hl) (k := fun _ => k) (q := fullShare)
    (f := (slotM q).view.rep X) (S := (slotM q).view.set) (slot_set q ▸ Finset.Subset.refl _)

theorem wp_store_slot (c q : Dev nD) {α : Type} {Q : α → sProp 𝕄} {off : Fin 3 → ℕ} (h : off = ![q.val, 0, 0]) (inb : ∀ a, off a + S1x2x1024.size a ≤ S32x2x1024.size a)
    {X a : Rows F} {hx : ((comM : Memref sig .tc .vmem S32x2x1024 .f32).access (Rect.unit (s := S32x2x1024) off S1x2x1024.size inb)).Stores Finset.univ}
    {hm : (Finset.univ : Finset (Rect.unit (s := S32x2x1024) off S1x2x1024.size inb).shape.Idx) = Finset.univ ∨ ∀ a, (Rect.unit (s := S32x2x1024) off S1x2x1024.size inb).stride a = 1}
    {k : PUnit → Prog (TpuEff nD τ sig (Elt F) Λ₀ .tc) α} :
    owns (c : Thread nD τ) (slotM q) fullShare X
      ⊢ iprop((owns (c : Thread nD τ) (slotM q) fullShare a -∗ wp frame (wpE (defs₀ (F := F)) 𝒱₀ (c : Thread nD τ) none) Set.univ (k ⟨⟩) Q)
          -∗ wp frame (wpE (defs₀ (F := F)) 𝒱₀ (c : Thread nD τ) none) Set.univ (.op (.store comM (Rect.unit (s := S32x2x1024) off S1x2x1024.size inb) (k0_pay2 a) Finset.univ hx hm) k) Q) := by
  subst h
  rw [owns_eq_rep]
  refine (wp_store (defs := defs₀ (F := F)) 𝒱₀ (c : Thread nD τ) none Set.univ (Q := Q) (m := comM) (r := slotR q) (w := k0_pay2 a) (Mk := Finset.univ) (hx := hx) (hm := hm)
    (k := k) (f := (slotM q).view.rep X) (S := (slotM q).view.set) ?_).trans (wand_mono_left (wand_mono_left ?_))
  · rw [slot_set, ← View.set_slice]; exact View.setOn_subset_set _ _
  unfold owns
  iintro H
  iexists _
  isplitr
  · ipureintro
    show (fun j => (comM.view.slice (slotR q)).read (Elt F) ((comM.view.slice (slotR q)).write (Elt F) ((slotM q).view.rep X) (k0_pay2 a) Finset.univ) (Shape.reshapeEquiv squeezes_S1x2x1024_S2x1024.numel_eq j)) = a
    rw [View.read_write_univ]
    funext j
    show a (Shape.reshapeEquiv _ (Shape.reshapeEquiv _ j)) = a j
    rw [Shape.reshapeEquiv_reshapeEquiv, Shape.reshapeEquiv_self]
  · iexact H

end Cert.KernelIdealProof

end
-- ==== Proof.KI.Points.lean ====
/-
# The body at each kind of grid point

The accumulation at every point; before it the signals at the first; after it the exchange at the last.
-/
module

public import proofs.«01_k».proof.Proof.KI.Slots

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Split
omit [FloatOps F]

theorem offs_sep (A B : Fin 31 → sProp 𝕄) : (bigSepL offs (fun r => iprop(A r ∗ B r)) : sProp 𝕄) = iprop(bigSepL offs A ∗ bigSepL offs B) := by
  rw [← bigSep_offs, ← bigSep_offs, ← bigSep_offs]; exact bigSep_sep' _ _ _

/-- A family over a device's cells: its barrier's, its own cell's and the others' of each array of semaphores. -/
theorem kd_split (c : Dev nD) (Φ : Kd → sProp 𝕄) : bigSep Finset.univ Φ
    = iprop(Φ none ∗ (Φ (some (false, c)) ∗ bigSepL offs fun r => Φ (some (false, peer c r)))
        ∗ (Φ (some (true, c)) ∗ bigSepL offs fun r => Φ (some (true, peer c r)))) := by
  rw [bigSep_option, bigSep_univ_prod, bigSep_bool, bigSep_dev c, bigSep_dev c]

end Split

/-- The accumulator after a block: from `0` at the first point. -/
def accStep (i : grid0.Coords) (x y : S128x1024.Idx → Elt F .f32) (a : Rows F) : Rows F :=
  k0_pay1 (k0_pay4 x y) (Scalar.cmpi .eq (BitVec.ofNat 32 (i 0).val) 0#32) (k0_pay5 (F := F)) a

/-- What is over the windows' buffers at a point. -/
def io (c : Dev nD) (X Y : Memref sig .tc .vmem S128x1024 .f32) (x y : S128x1024.Idx → Elt F .f32) : sProp 𝕄 :=
  iprop(owns (c : Thread nD τ) X fullShare x ∗ owns (c : Thread nD τ) Y fullShare y)

theorem wp_accum (c : Dev nD) (i : grid0.Coords) (X Y : Memref sig .tc .vmem S128x1024 .f32) (x y : S128x1024.Idx → Elt F .f32) (a : Rows F)
    {Q : PUnit → sProp 𝕄} (k : Prog (TpuEff nD τ sig (Elt F) Λ₀ .tc) PUnit) :
    iprop(io c X Y x y ∗ owns (c : Thread nD τ) accM fullShare a)
      ⊢ iprop(((io c X Y x y ∗ owns (c : Thread nD τ) accM fullShare (accStep i x y a))
            -∗ wp frame (wpE (defs₀ (F := F)) 𝒱₀ (c : Thread nD τ) none) Set.univ k Q)
          -∗ wp frame (wpE (defs₀ (F := F)) 𝒱₀ (c : Thread nD τ) none) Set.univ (accum i X Y accM k) Q) := by
  unfold accum io accStep
  simp only [Prog.lift, Prog.bind_op, Prog.bind_ret]
  iintro ⟨⟨HX, HY⟩, HA⟩ Hk
  iapply (wp_load_own c X) $$ HX; iintro HX
  iapply (wp_load_own c Y) $$ HY; iintro HY
  iapply (wp_load_own c accM) $$ HA; iintro HA
  iapply (wp_load_own c accM) $$ HA; iintro HA
  iapply (wp_store_own c accM) $$ HA; iintro HA
  iapply Hk
  isplitl [HX HY]
  · isplitl [HX] <;> iassumption
  iexact HA

variable (Z : Dev nD → Rows F) (K : Dev nD × Kd → ℕ)

/-! ## The state carried between points -/

/-- From the first point's signals to the last point's barrier: the invariants, the device's positions, the duties it
    still pays, the credits it waits on. -/
def held (c : Dev nD) : sProp 𝕄 :=
  iprop(records Z K ∗ (bigSep Finset.univ fun k : Kd => atPos ER (kcell (c, k)) 0 ∅ 0)
    ∗ (bigSepL offs fun r => dutyTok ER (sendCell c (peer c r)) 0 r) ∗ (bigSepL offs fun r => dutyTok ER (recvCell (peer c r) c) 0 r.rev)
    ∗ cred (tallyAt (barCell c) () 31) ∗ (bigSepL offs fun r => cred (tallyAt (recvCell c (peer c r)) () N)) ∗ levAts L lv)

/-- What the first point has beside it. -/
def toks (c : Dev nD) : sProp 𝕄 := bigSepL offs fun r => dutyTok ER (barCell (peer c r)) 0 r.rev

/-- The device's own slot, at any contents. -/
def ownSlot (c : Dev nD) : sProp 𝕄 := iprop(∃ X : Rows F, owns (c : Thread nD τ) (slotM c) fullShare X)

/-! ## The first point -/

theorem wp_first (c : Dev nD) (i : grid0.Coords) (h1 : k0_cond1 i = 1#1) (h2 : ¬ k0_cond2 i = 1#1)
    (X Y : Memref sig .tc .vmem S128x1024 .f32) (O : Memref sig .tc .vmem S2x1024 .f32) (hX : X.IsWhole) (hY : Y.IsWhole) (hO : O.IsWhole) (hA hC)
    (x y : S128x1024.Idx → Elt F .f32) (a : Rows F) (W : Waits sig Unit) {Q : PUnit → sProp 𝕄} :
    iprop(held Z K c ∗ toks c ∗ owns (c : Thread nD τ) accM fullShare a
        ∗ (∃ f, comM.view.loc (c : Thread nD τ) ↦[(comM : Memref sig .tc .vmem S32x2x1024 .f32).view.set]{fullShare} f)
        ∗ owes (c : Thread nD τ) (O₀ c) W ∗ io c X Y x y)
      ⊢ iprop(((held Z K c ∗ owns (c : Thread nD τ) accM fullShare (accStep i x y a) ∗ ownSlot c
            ∗ owes (c : Thread nD τ) (owedR c offs) W ∗ io c X Y x y) -∗ Q ⟨⟩)
          -∗ wp frame (wpE (defs₀ (F := F)) 𝒱₀ (c : Thread nD τ) none) Set.univ
              (cc0_body i X hX Y hY O hO accM hA comM hC cc0_scratch2 cc0_scratch3) Q) := by
  rw [body_first _ _ _ _ _ _ _ _ _ _ _ _ _ h1 h2]
  simp only [wp_deviceId]
  show _ ⊢ iprop(_ -∗ wp frame (wpE (defs₀ (F := F)) 𝒱₀ (c : Thread nD τ) none) Set.univ (sigLoop (sigDev i h1 c) offs >>= fun _ => accum i X Y accM (.ret ⟨⟩)) Q)
  rw [sigDev_eq]
  unfold held toks O₀
  iintro ⟨⟨#HR, Hrest⟩, Htok, HA, ⟨%f, HC⟩, HO, Hio⟩ Hk
  ihave Hsl := ((slots_split c f).trans (Entails.of_eq (bigSep_dev c _))) $$ HC
  icases Hsl with ⟨Hown, Hsl⟩
  iapply (sig_loop Z K c (owedR c offs) W (fun _ => accum i X Y accM (.ret ⟨⟩)) offs) $$ [HO Htok Hsl]
  · isplitr; · iexact HR
    isplitl [HO]; · iexact HO
    rw [show bigSepL offs (sigPre (F := F) c) = _ from offs_sep _ _]
    isplitl [Htok] <;> iassumption
  iintro HO
  iapply (wp_accum c i X Y x y a) $$ [Hio HA]
  · isplitl [Hio] <;> iassumption
  iintro ⟨Hio, HA⟩
  rw [wp_ret]; imodintro
  iapply Hk
  isplitl [Hrest]
  · isplitr; · iexact HR
    iexact Hrest
  isplitl [HA]; · iexact HA
  isplitl [Hown]; · unfold ownSlot; iexact Hown
  isplitl [HO] <;> iassumption

/-! ## A point between -/

theorem wp_mid (c : Dev nD) (i : grid0.Coords) (h1 : ¬ k0_cond1 i = 1#1) (h2 : ¬ k0_cond2 i = 1#1)
    (X Y : Memref sig .tc .vmem S128x1024 .f32) (O : Memref sig .tc .vmem S2x1024 .f32) (hX : X.IsWhole) (hY : Y.IsWhole) (hO : O.IsWhole) (hA hC)
    (x y : S128x1024.Idx → Elt F .f32) (a : Rows F) {Q : PUnit → sProp 𝕄} :
    iprop(owns (c : Thread nD τ) accM fullShare a ∗ io c X Y x y)
      ⊢ iprop(((owns (c : Thread nD τ) accM fullShare (accStep i x y a) ∗ io c X Y x y) -∗ Q ⟨⟩)
          -∗ wp frame (wpE (defs₀ (F := F)) 𝒱₀ (c : Thread nD τ) none) Set.univ
              (cc0_body i X hX Y hY O hO accM hA comM hC cc0_scratch2 cc0_scratch3) Q) := by
  rw [body_mid _ _ _ _ _ _ _ _ _ _ _ _ _ h1 h2]
  simp only [wp_deviceId]
  iintro ⟨HA, Hio⟩ Hk
  iapply (wp_accum c i X Y x y a) $$ [Hio HA]
  · isplitl [Hio] <;> iassumption
  iintro ⟨Hio, HA⟩
  rw [wp_ret]; imodintro
  iapply Hk
  isplitl [HA] <;> iassumption

/-! ## The last point -/

/-- Every cell of the device, at zero. -/
def closed (c : Dev nD) : sProp 𝕄 := bigSep Finset.univ fun k : Kd => semVal (kcell (c, k)) 0

/-- The round at which the device leaves a cell. -/
def leave (c : Dev nD) : Kd → ℕ
  | none => 1
  | some (_, q) => if q = c then 0 else 1

omit [FloatOps F] in
theorem leave_duties (c : Dev nD) (k : Kd) : ∀ n, leave c k ≤ n → (Rd (F := F) Z).duties (kcell (c, k)) n = ∅ := by
  intro n hn
  rcases k with _ | ⟨b, q⟩
  · exact duties_later Z _ n hn
  · by_cases h : q = c
    · subst h; exact duties_own Z q b n
    · exact duties_later Z _ n (by simpa only [leave, if_neg h] using hn)

omit [FloatOps F] in
theorem close_all (c : Dev nD) :
    iprop(records Z K ∗ bigSep Finset.univ fun k : Kd => atPos ER (kcell (c, k)) (leave c k) ∅ 0)
      ⊢ (|={Set.univ}=> closed c : sProp 𝕄) := by
  have h : iprop(records Z K ∗ bigSep Finset.univ fun k : Kd => (atPos ER (kcell (c, k)) (leave c k) ∅ 0 : sProp 𝕄))
      ⊢ bigSep Finset.univ fun k : Kd => iprop(cellInv ER (Rd Z) (K (c, k)) (kcell (c, k)) ∗ atPos ER (kcell (c, k)) (leave c k) ∅ 0) := by
    rw [bigSep_sep']
    iintro ⟨#HR, Hat⟩
    isplitr
    · iapply ((bigSep_of_persistent Finset.univ (records Z K)).trans (bigSep_mono fun k _ => inv_at Z K (c, k))); iexact HR
    iexact Hat
  exact h.trans (Rounds.cells_close ER (Rd Z) Finset.univ (fun k => kcell (c, k)) (fun k => K (c, k)) (fun _ _ => Set.mem_univ _)
    (fun _ _ h => h) (leave c) (fun k _ => leave_duties Z c k))

set_option maxRecDepth 65536 in
theorem wp_last (c : Dev nD) (i : grid0.Coords) (h1 : ¬ k0_cond1 i = 1#1) (h2 : k0_cond2 i = 1#1)
    (X Y : Memref sig .tc .vmem S128x1024 .f32) (O : Memref sig .tc .vmem S2x1024 .f32) (hX : X.IsWhole) (hY : Y.IsWhole) (hO : O.IsWhole) (hA hC)
    (hdev : sendDev i h2 c = peer c)
    (x y : S128x1024.Idx → Elt F .f32) (a o : Rows F) (hZ : accStep i x y a = Z c) (W : Waits sig Unit) {Q : PUnit → sProp 𝕄} :
    iprop(held Z K c ∗ owns (c : Thread nD τ) accM fullShare a ∗ ownSlot c
        ∗ owes (c : Thread nD τ) (owedR c offs) W ∗ io c X Y x y ∗ owns (c : Thread nD τ) O fullShare o)
      ⊢ iprop(((owns (c : Thread nD τ) accM fullShare (Z c) ∗ owns (c : Thread nD τ) comM fullShare (comVal Z) ∗ closed c
            ∗ (∃ W, owes (c : Thread nD τ) 0 W) ∗ io c X Y x y ∗ owns (c : Thread nD τ) O fullShare (k0_pay3 (comVal Z))) -∗ Q ⟨⟩)
          -∗ wp frame (wpE (defs₀ (F := F)) 𝒱₀ (c : Thread nD τ) none) Set.univ
              (cc0_body i X hX Y hY O hO accM hA comM hC cc0_scratch2 cc0_scratch3) Q) := by
  rw [body_last _ _ _ _ _ _ _ _ _ _ _ _ _ h1 h2]
  simp only [wp_deviceId]
  show _ ⊢ iprop(_ -∗ wp frame (wpE (defs₀ (F := F)) 𝒱₀ (c : Thread nD τ) none) Set.univ (accum i X Y accM (tail i h2 c accM hA comM cc0_scratch2 cc0_scratch3 O (sendDev i h2 c))) Q)
  rw [hdev]
  unfold held ownSlot
  rw [kd_split c]
  iintro ⟨⟨#HR, ⟨HpB, ⟨HpS, HpSs⟩, HpR, HpRs⟩, HtS, HtR, HcB, HcR, #Hlev⟩, HA, ⟨%X0, Hslot⟩, HO, Hio, Hout⟩ Hk
  iapply (wp_accum c i X Y x y a) $$ [Hio HA]
  · isplitl [Hio] <;> iassumption
  iintro ⟨Hio, HA⟩
  rw [hZ]
  unfold tail
  simp only [semWaitWord, Prog.lift, Prog.bind_op, Prog.bind_ret, Prog.pure_eq_ret]
  -- the barrier
  iapply (Rounds.wp_wait_rest_token 𝒱₀ ER (Rd Z) (c : Thread nD τ) none (κ := K (c, none))
      (wpE_semWait_eq 𝒱₀ (c : Thread nD τ) none Set.univ) (Set.mem_univ _) () (O := owedR c offs) (W := W) (R := 0) (m := 0) (T := ∅)
      (by rw [Nat.zero_add]; exact (expect_bar Z c).symm)) $$ [HcB HO HpB]
  · isplitr; · iapply (inv_at Z K (c, none)); iexact HR
    isplitl [HcB]; · iexact HcB
    isplitl [HO]; · iexact HO
    isplitr; · iapply (mayWait_bar c); iexact Hlev
    iexact HpB
  iintro ⟨HO, HpB, -, Hpay⟩
  ihave Hbar := (Entails.of_eq (rest_bar Z c)) $$ Hpay
  -- the copies
  ihave HA2 := (acc_shares Z c).1 $$ HA
  icases HA2 with ⟨HA, HAs⟩
  iapply (send_loop Z K i h2 c hA _ _ offs) $$ [HO HtS HtR Hbar HAs]
  · isplitr; · iexact HR
    isplitl [HO]; · iexact HO
    have e : bigSepL offs (sendPre Z c) = iprop((bigSepL offs fun r => dutyTok ER (sendCell c (peer c r)) 0 r)
        ∗ (bigSepL offs fun r => dutyTok ER (recvCell (peer c r) c) 0 r.rev) ∗ (bigSepL offs fun r => barPay c r) ∗ bigSepL offs (sendPay Z c)) := by
      unfold sendPre; rw [offs_sep, offs_sep, offs_sep]
    rw [e]
    isplitl [HtS]; · iexact HtS
    isplitl [HtR]; · iexact HtR
    isplitl [Hbar] <;> iassumption
  iintro ⟨HcS, HO⟩
  iapply (wp_load_own c accM) $$ HA; iintro HA
  iapply (wp_load_slot c c (k0_off4_eq c) _) $$ Hslot; iintro Hslot
  iapply (wp_store_slot c c (k0_off4_eq c) _) $$ Hslot; iintro Hslot
  -- the arrivals
  iapply (recv_loop Z K i h2 c hA _ offs) $$ [HO HcR HpRs]
  · isplitr; · iexact HR
    isplitl [HO]; · iexists _; iexact HO
    unfold waitPre; rw [offs_sep]
    isplitl [HcR] <;> iassumption
  rw [offs_sep]
  iintro ⟨⟨HpRs, Hrecv⟩, HO⟩
  ihave HC := (slots_join Z c) $$ [Hslot Hrecv]
  · rw [bigSep_dev c]
    isplitl [Hslot]; · iexact Hslot
    unfold recvPay; iexact Hrecv
  iapply (wp_load_own c comM) $$ HC; iintro HC
  iapply (wp_load_own c O) $$ Hout; iintro Hout
  iapply (wp_store_own c O) $$ Hout; iintro Hout
  -- the departures
  rw [show doneLoop i h2 c accM hA comM cc0_scratch2 offs = (doneLoop i h2 c accM hA comM cc0_scratch2 offs >>= fun u => .ret u) from (bind_pure _).symm]
  iapply (done_loop Z K i h2 c hA _ offs) $$ [HO HcS HpSs]
  · isplitr; · iexact HR
    isplitl [HO]; · iexact HO
    unfold waitPre; rw [offs_sep]
    isplitl [HcS] <;> iassumption
  rw [offs_sep]
  iintro ⟨⟨HpSs, HAs⟩, HO⟩
  ihave HA := (acc_shares Z c).2 $$ [HA HAs]
  · isplitl [HA] <;> iassumption
  imod (close_all Z K c) $$ [HpB HpS HpSs HpR HpRs] with Hz
  · isplitr; · iexact HR
    have e : ∀ b, (fun r => (atPos ER (kcell (c, some (b, peer c r))) (leave c (some (b, peer c r))) ∅ 0 : sProp 𝕄))
        = fun r => atPos ER (kcell (c, some (b, peer c r))) 1 ∅ 0 := fun b => funext fun r => by
      rw [show leave c (some (b, peer c r)) = 1 from if_neg (peer_ne c r)]
    have e0 : ∀ b, leave c (some (b, c)) = 0 := fun b => if_pos rfl
    rw [kd_split c, e false, e true, e0, e0]
    isplitl [HpB]; · iexact HpB
    isplitl [HpS HpSs]
    · isplitl [HpS] <;> iassumption
    isplitl [HpR] <;> iassumption
  rw [wp_ret]; imodintro
  iapply Hk
  isplitl [HA]; · iexact HA
  isplitl [HC]; · iexact HC
  isplitl [Hz]; · iexact Hz
  isplitl [HO]; · iexact HO
  isplitl [Hio] <;> iassumption

end Cert.KernelIdealProof

end
-- ==== Proof.KI.Body.lean ====
/-
# The body obligation

The proof data of the one call, device by device, and the body's triple at every grid point.
-/
module

public import proofs.«01_k».proof.Proof.KI.Points

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## The grid points -/

theorem cond1_iff : ∀ t : Fin cfg0.N, k0_cond1 (grid0.coords t) = 1#1 ↔ t.val = 0 := by decide
theorem cond2_iff : ∀ t : Fin cfg0.N, k0_cond2 (grid0.coords t) = 1#1 ↔ t.val = 7 := by decide
theorem eight : cfg0.N = 8 := N_0

theorem sendDev_eq (i : grid0.Coords) (h2 : k0_cond2 i = 1#1) (c : Dev nD) : sendDev i h2 c = peer c :=
  (sendDev_sigDev i (grid0.coords t0_0) h2 ((cond1_iff t0_0).mpr rfl) c).trans (sigDev_eq _ _ _)

/-! ## The contents -/

/-- The accumulator of device `c` before point `n`. -/
def accF (c : Dev nD) : ℕ → Rows F
  | 0 => k0_pay5
  | n + 1 => if h : n < cfg0.N then accStep (grid0.coords ⟨n, h⟩) (iblk m c 0 ⟨n, h⟩) (iblk m c 1 ⟨n, h⟩) (accF c n) else accF c n

theorem accF_succ (c : Dev nD) (t : Fin cfg0.N) :
    accF m c (t.val + 1) = accStep (grid0.coords t) (iblk m c 0 t) (iblk m c 1 t) (accF m c t.val) := by
  rw [accF, dif_pos t.isLt]

/-- The first point's result does not depend on what the accumulator held. -/
theorem accStep_first (i : grid0.Coords) (h : (i 0).val = 0) (x y : S128x1024.Idx → Elt F .f32) (a b : Rows F) : accStep i x y a = accStep i x y b := by
  unfold accStep; rw [h]; rfl

/-- What device `c` has accumulated at the end. -/
def ZZ (c : Dev nD) : Rows F := accF m c 8

/-- What every device's result is. -/
def res : Rows F := k0_pay3 (comVal (ZZ m))

/-! ## The data -/

def Phi0 (c : Dev nD) : sProp 𝕄 :=
  iprop((∃ K, held (ZZ m) K c ∗ toks c) ∗ (∃ a : Rows F, owns (c : Thread nD τ) accM fullShare a)
    ∗ (∃ f, comM.view.loc (c : Thread nD τ) ↦[(comM : Memref sig .tc .vmem S32x2x1024 .f32).view.set]{fullShare} f))
def PhiMid (c : Dev nD) (n : ℕ) : sProp 𝕄 :=
  iprop((∃ K, held (ZZ m) K c) ∗ owns (c : Thread nD τ) accM fullShare (accF m c n) ∗ ownSlot c)
def Phi8 (c : Dev nD) : sProp 𝕄 :=
  iprop(owns (c : Thread nD τ) accM fullShare (ZZ m c) ∗ owns (c : Thread nD τ) comM fullShare (comVal (ZZ m)) ∗ closed c)

def PhiN (c : Dev nD) (n : ℕ) : sProp 𝕄 := if n = 0 then Phi0 m c else if n = 8 then Phi8 m c else PhiMid m c n
def owedN (c : Dev nD) (n : ℕ) : CellTallies nD τ sig Unit := if n = 0 then O₀ c else if n = 8 then 0 else owedR c offs

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => res m
  Φ t := PhiN m c t.val
  q _ := fullShare
  owed t := owedN c t.val

theorem before_x (c : Dev nD) (t : Fin cfg0.N) (d) : (dats m 0 c).before 0 t d = iblk m c 0 t := by
  unfold Dat.before; rw [if_pos (fetch0_0 t)]; rfl
theorem before_y (c : Dev nD) (t : Fin cfg0.N) (d) : (dats m 0 c).before 1 t d = iblk m c 1 t := by
  unfold Dat.before; rw [if_pos (fetch0_1 t)]; rfl

/-! ## The obligation -/

def bodyPre (c : Dev nD) (t : Fin cfg0.N) : sProp 𝕄 :=
  iprop(PhiN m c t.val ∗ (∃ W, owes (c : Thread nD τ) (owedN c t.val) W)
    ∗ io c (st0_0 t) (st0_1 t) (iblk m c 0 t) (iblk m c 1 t)
    ∗ ∃ d, owns (c : Thread nD τ) (st0_2 t) fullShare ((dats m 0 c).before 2 t d))
def bodyPost (c : Dev nD) (t : Fin cfg0.N) : sProp 𝕄 :=
  iprop(PhiN m c (t.val + 1) ∗ (∃ W, owes (c : Thread nD τ) (owedN c (t.val + 1)) W)
    ∗ io c (st0_0 t) (st0_1 t) (iblk m c 0 t) (iblk m c 1 t)
    ∗ (dats m 0 c).leavesExact 2 t)

theorem sound_body (c : Dev nD) (t : Fin cfg0.N) :
    bodyPre m c t ⊢ wp frame (wpE (defs₀ (F := F)) 𝒱₀ (c : Thread nD τ) none) Set.univ (bodyAt0 t) (fun _ => bodyPost m c t) := by
  have ht : t.val < 8 := lt_of_lt_of_eq t.isLt eight
  unfold bodyPre bodyPost
  by_cases h0 : t.val = 0
  · have h1 := (cond1_iff t).mpr h0
    have h2 : ¬ k0_cond2 (grid0.coords t) = 1#1 := fun h => by have := (cond2_iff t).mp h; omega
    have hz : ((grid0.coords t) 0).val = 0 := by
      have : ∀ t : Fin cfg0.N, t.val = 0 → ((grid0.coords t) 0).val = 0 := by decide
      exact this t h0
    have hf : (cfg0.win 2).flush t = false := by
      rw [Bool.eq_false_iff]; intro h; have := (flush0_2 t).mp h; omega
    rw [Dat.leavesExact_idle _ 2 t (by show (!(k0_cond2 (grid0.coords t) == 1#1)) = true; simpa using h2) hf]
    have eP : PhiN m c (t.val + 1) = PhiMid m c (t.val + 1) := by unfold PhiN; rw [if_neg (by omega), if_neg (by omega)]
    have eO : owedN c (t.val + 1) = owedR c offs := by unfold owedN; rw [if_neg (by omega), if_neg (by omega)]
    have eP0 : PhiN m c t.val = Phi0 m c := by unfold PhiN; rw [if_pos h0]
    have eO0 : owedN c t.val = O₀ c := by unfold owedN; rw [if_pos h0]
    rw [eP, eO, eP0, eO0]
    unfold Phi0 PhiMid
    rw [accF_succ]
    iintro ⟨⟨⟨%K, Hh, Ht⟩, ⟨%a, HA⟩, HC⟩, ⟨%W, HO⟩, Hio, Hout⟩
    iapply (wp_first (ZZ m) K c (grid0.coords t) h1 h2 (st0_0 t) (st0_1 t) (st0_2 t) _ _ _ _ _ (iblk m c 0 t) (iblk m c 1 t) a W) $$ [Hh Ht HA HC HO Hio]
    · isplitl [Hh]; · iexact Hh
      isplitl [Ht]; · iexact Ht
      isplitl [HA]; · iexact HA
      isplitl [HC]; · iexact HC
      isplitl [HO] <;> iassumption
    iintro ⟨Hh, HA, Hs, HO, Hio⟩
    isplitl [Hh HA Hs]
    · isplitl [Hh]; · iexists K; iexact Hh
      isplitl [HA]
      · rw [accStep_first (grid0.coords t) hz _ _ (accF m c t.val) a]; iexact HA
      iexact Hs
    isplitl [HO]; · iexists W; iexact HO
    isplitl [Hio] <;> iassumption
  · have h1 : ¬ k0_cond1 (grid0.coords t) = 1#1 := fun h => h0 ((cond1_iff t).mp h)
    by_cases h7 : t.val = 7
    · have h2 := (cond2_iff t).mpr h7
      have eP : PhiN m c (t.val + 1) = Phi8 m c := by unfold PhiN; rw [if_neg (by omega), if_pos (by omega)]
      have eO : owedN c (t.val + 1) = 0 := by unfold owedN; rw [if_neg (by omega), if_pos (by omega)]
      have eP0 : PhiN m c t.val = PhiMid m c t.val := by unfold PhiN; rw [if_neg h0, if_neg (by omega)]
      have eO0 : owedN c t.val = owedR c offs := by unfold owedN; rw [if_neg h0, if_neg (by omega)]
      have eL : (dats m 0 c).leavesExact 2 t = owns (c : Thread nD τ) (st0_2 t) fullShare (res m) := by
        unfold Dat.leavesExact
        rw [show cfg0.idle 2 (cfg0.grid.coords t) = false from by show (!(k0_cond2 (grid0.coords t) == 1#1)) = false; rw [h2]; rfl]
        rfl
      have hZ : accStep (grid0.coords t) (iblk m c 0 t) (iblk m c 1 t) (accF m c t.val) = ZZ m c := by
        rw [← accF_succ, h7]; rfl
      rw [eP, eO, eP0, eO0, eL]
      unfold Phi8 PhiMid res
      iintro ⟨⟨⟨%K, Hh⟩, HA, Hs⟩, ⟨%W, HO⟩, Hio, ⟨%d, Hout⟩⟩
      iapply (wp_last (ZZ m) K c (grid0.coords t) h1 h2 (st0_0 t) (st0_1 t) (st0_2 t) _ _ _ _ _ (sendDev_eq _ h2 c) (iblk m c 0 t) (iblk m c 1 t)
        (accF m c t.val) _ hZ W) $$ [Hh HA Hs HO Hio Hout]
      · isplitl [Hh]; · iexact Hh
        isplitl [HA]; · iexact HA
        isplitl [Hs]; · iexact Hs
        isplitl [HO]; · iexact HO
        isplitl [Hio] <;> iassumption
      iintro ⟨HA, HC, Hz, HO, Hio, Hout⟩
      isplitl [HA HC Hz]
      · isplitl [HA]; · iexact HA
        isplitl [HC] <;> iassumption
      isplitl [HO]; · iexact HO
      isplitl [Hio] <;> iassumption
    · have h2 : ¬ k0_cond2 (grid0.coords t) = 1#1 := fun h => h7 ((cond2_iff t).mp h)
      have hf : (cfg0.win 2).flush t = false := by
        rw [Bool.eq_false_iff]; intro h; have := (flush0_2 t).mp h; omega
      rw [Dat.leavesExact_idle _ 2 t (by show (!(k0_cond2 (grid0.coords t) == 1#1)) = true; simpa using h2) hf]
      have eP : PhiN m c (t.val + 1) = PhiMid m c (t.val + 1) := by unfold PhiN; rw [if_neg (by omega), if_neg (by omega)]
      have eO : owedN c (t.val + 1) = owedR c offs := by unfold owedN; rw [if_neg (by omega), if_neg (by omega)]
      have eP0 : PhiN m c t.val = PhiMid m c t.val := by unfold PhiN; rw [if_neg h0, if_neg (by omega)]
      have eO0 : owedN c t.val = owedR c offs := by unfold owedN; rw [if_neg h0, if_neg (by omega)]
      rw [eP, eO, eP0, eO0]
      unfold PhiMid
      rw [accF_succ]
      iintro ⟨⟨Hh, HA, Hs⟩, HO, Hio, Hout⟩
      iapply (wp_mid c (grid0.coords t) h1 h2 (st0_0 t) (st0_1 t) (st0_2 t) _ _ _ _ _ (iblk m c 0 t) (iblk m c 1 t) (accF m c t.val)) $$ [HA Hio]
      · isplitl [HA] <;> iassumption
      iintro ⟨HA, Hio⟩
      isplitl [Hh HA Hs]
      · isplitl [Hh]; · iexact Hh
        isplitl [HA] <;> iassumption
      isplitl [HO]; · iexact HO
      isplitl [Hio] <;> iassumption

theorem body_obligation (c : Dev nD) : BodyObligation (dats m 0 c) (defs₀ (F := F)) 𝒱₀ () Set.univ := fun t => by
  rw [bigSep_W0, bigSep_W0]
  have hΦ : (dats m 0 c).Φ t.castSucc = PhiN m c t.val := by
    dsimp only [dats]; exact Dat.Φ_castSucc (fun n _ => PhiN m c n) t
  have hΦ' : (dats m 0 c).Φ t.succ = PhiN m c (t.val + 1) := by dsimp only [dats, Fin.val_succ]
  rw [hΦ, hΦ']
  have hpre : iprop(PhiN m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))) ⊢ bodyPre m c t := by
    unfold bodyPre io Dat.owesAt Pipeline.owesWithin
    simp only [before_x, before_y]
    iintro ⟨HP, ⟨%W, -, HO⟩, ⟨%d0, HX⟩, ⟨%d1, HY⟩, HZ⟩
    isplitl [HP]; · iexact HP
    isplitl [HO]; · iexists W; iexact HO
    isplitl [HX HY]
    · isplitl [HX] <;> iassumption
    iexact HZ
  have hpost : bodyPost m c t ⊢ iprop(PhiN m c (t.val + 1) ∗ (dats m 0 c).owesAt () t.succ
      ∗ owns (c : Thread nD τ) (st0_0 t) fullShare ((dats m 0 c).after 0 t)
      ∗ owns (c : Thread nD τ) (st0_1 t) fullShare ((dats m 0 c).after 1 t)
      ∗ (dats m 0 c).leavesExact 2 t) := by
    unfold bodyPost io Dat.owesAt Pipeline.owesWithin
    iintro ⟨HP, ⟨%W, HO⟩, ⟨HX, HY⟩, HZ⟩
    isplitl [HP]; · iexact HP
    isplitl [HO]
    · iexists W
      isplitr; · ipureintro; exact fun _ _ => Or.inl trivial
      iexact HO
    isplitl [HX]; · iexact HX
    isplitl [HY]; · iexact HY
    iexact HZ
  exact hpre.trans ((sound_body m c t).trans (wp_mono _ _ _ fun _ => hpost))

end Cert.KernelIdealProof

end
-- ==== Proof.KI.Launch.lean ====
/-
# The launch

The ghost resources minted for the exchange, dealt so that each device holds the tokens of the duties it pays; the
credit each device starts with; the run of the whole machine.
-/
module

public import proofs.«01_k».proof.Proof.KI.Body
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of the kernel -/

theorem ownSemFacts : Pipeline.OwnSemFacts cfg0.spec osem where
  isScoped := by decide
  inj a b h := Option.some.inj (csem_inj (a₁ := some a) (a₂ := some b) h)
  disj k w s h := by
    have hs : ((cfg0.spec w).sem s).val < 5 := by
      have : ∀ w s, ((cfg0.spec w).sem s).val < 5 := by decide
      exact this w s
    have hv : (dsem k).val = ((cfg0.spec w).sem s).val := congrArg Fin.val (SemLoc.dma.inj h)
    rcases k with ⟨_ | _, q⟩ <;> simp only [dsem] at hv <;> omega

theorem share_eq (c : Dev nD) (w : Fin cfg0.W) : (dats m 0 c).share w = fullShare := by unfold Dat.share; split <;> rfl

/-! ## The resources minted -/

def ringCells : Finset (GSem nD τ sig) := Finset.univ.map ⟨kcell, kcell_inj⟩

/-- The tokens of the duties at device `c`'s cells: of offset `r`, one at the barrier, one at a send, one at a receive cell. -/
abbrev tokOf (x : (Dev nD × Fin 31) × Option Bool) : GSem nD τ sig × ℕ × Fin 31 :=
  (kcell (x.1.1, x.2.map fun b => (b, peer x.1.1 x.1.2)), 0, x.1.2)

theorem tokOf_inj : Function.Injective tokOf := by
  rintro ⟨⟨c, r⟩, k⟩ ⟨⟨d, s⟩, l⟩ h
  have h1 := kcell_inj (congrArg Prod.fst h)
  have h2 : r = s := congrArg (fun x : GSem nD τ sig × ℕ × Fin 31 => x.2.2) h
  have h3 : c = d := congrArg Prod.fst h1
  subst h2; subst h3
  have h4 := congrArg Prod.snd h1
  rcases k with _ | k <;> rcases l with _ | l
  · rfl
  · cases h4
  · cases h4
  · have h5 : (k, peer c r) = (l, peer c r) := Option.some.inj h4
    rw [(Prod.mk.inj h5).1]

def ringToks : Finset (GSem nD τ sig × ℕ × Fin 31) := Finset.univ.map ⟨tokOf, tokOf_inj⟩

def u₀ : UU :=
  (initOf (Pipeline.cells cfgs cellOf_inj) (Pipeline.launchToks cfgs cellOf_inj), initOf ringCells ringToks)

/-- The duty tokens at device `c`'s own cells. -/
def minted (c : Dev nD) : sProp 𝕄 :=
  bigSep Finset.univ fun r : Fin 31 => iprop(dutyTok ER (barCell c) 0 r ∗ dutyTok ER (sendCell c (peer c r)) 0 r ∗ dutyTok ER (recvCell c (peer c r)) 0 r)

/-- What the launch deals device `c`. -/
def G (c : Dev nD) : sProp 𝕄 :=
  iprop((bigSep Finset.univ fun k : Kd => roundState ER (Rd (ZZ m)) (kcell (c, k)) 0)
    ∗ (bigSep Finset.univ fun k : Kd => iprop(atPos ER (kcell (c, k)) 0 ∅ 0 ∗ reached ER (kcell (c, k)) 0)) ∗ minted c)

/-- What device `c` pays with. -/
def payToks (c : Dev nD) : sProp 𝕄 :=
  iprop(toks c ∗ (bigSepL offs fun r => dutyTok ER (sendCell c (peer c r)) 0 r) ∗ (bigSepL offs fun r => dutyTok ER (recvCell (peer c r) c) 0 r.rev))

/-- What device `c` starts from. -/
def G' (c : Dev nD) : sProp 𝕄 :=
  iprop(∃ K, records (ZZ m) K ∗ (bigSep Finset.univ fun k : Kd => atPos ER (kcell (c, k)) 0 ∅ 0) ∗ payToks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Kd => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod, bigSep_univ_prod]
    refine bigSep_congr fun c _ => ?_
    unfold minted
    refine bigSep_congr fun r _ => ?_
    rw [bigSep_option, bigSep_bool]; rfl
  iintro HX
  imod (Rounds.fund ER (Rd (ZZ m)) ringCells ringToks) $$ HX with ⟨Hst, Hr, Hat, Htok⟩
  imodintro
  ihave Hst' := (Entails.of_eq (hX fun g => roundState ER (Rd (ZZ m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

section Deal
omit [FloatOps F]

/-- The barrier is the machine's one semaphore that no launch scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun k : Kd => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_option]; rfl

theorem toks_around : (bigSep Finset.univ fun c : Dev nD => (minted c : sProp 𝕄)) ⊢ bigSep Finset.univ fun c : Dev nD => payToks c := by
  have swap (Φ : Dev nD × Fin 31 → sProp 𝕄) : (bigSep Finset.univ fun c : Dev nD => bigSep Finset.univ fun r : Fin 31 => Φ (c, r))
      = bigSep Finset.univ fun c : Dev nD => bigSepL offs fun r => Φ (peer c r, r.rev) := by
    rw [← bigSep_univ_prod, bigSep_univ_equiv swapE, bigSep_univ_prod]
    exact bigSep_congr fun c _ => bigSep_offs _
  unfold minted payToks toks
  simp only [bigSep_sep']
  rw [swap fun x => dutyTok ER (barCell x.1) 0 x.2, swap fun x => dutyTok ER (recvCell x.1 (peer x.1 x.2)) 0 x.2]
  simp only [peer_rev, bigSep_offs]
  exact .rfl

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end Deal

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (ZZ m)) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Kd => semVal (kcell (c, k)) 0) ∗ bigSep Finset.univ fun k : Kd => roundState ER (Rd (ZZ m)) (kcell (c, k)) 0)
      ⊢ (|={Set.univ}=> bigSep Finset.univ fun k => iprop(∃ κ : ℕ, cellInv ER (Rd (ZZ m)) κ (kcell (c, k))) : sProp 𝕄) from by
        rw [← bigSep_sep']
        exact (bigSep_mono fun k _ => (Rounds.body_intro ER (Rd (ZZ m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem start_of (K : Dev nD × Kd → ℕ) (c : Dev nD) :
    iprop(records (ZZ m) K ∗ (bigSep Finset.univ fun k : Kd => atPos ER (kcell (c, k)) 0 ∅ 0) ∗ payToks c) ⊢ G' m c := by
  unfold G'
  iintro H
  iexists K
  iexact H

theorem regroup :
    (bigSep Finset.univ fun c : Dev nD => iprop((bigSep Finset.univ fun k => iprop(∃ κ : ℕ, cellInv ER (Rd (ZZ m)) κ (kcell (c, k))))
          ∗ (bigSep Finset.univ fun k => iprop(atPos ER (kcell (c, k)) 0 ∅ 0 ∗ reached ER (kcell (c, k)) 0)) ∗ minted c) : sProp 𝕄)
      ⊢ bigSep Finset.univ (G' m) := by
  rw [bigSep_sep', bigSep_sep', ← bigSep_univ_prod (fun ck : Dev nD × Kd => iprop(∃ κ : ℕ, cellInv ER (Rd (ZZ m)) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (Rd (ZZ m)) κ (kcell ck) : sProp 𝕄))) $$ HI
  icases HK with ⟨%K, #HI⟩
  ihave Htk := (toks_around (F := F)) $$ Htok
  iapply (bigSep_beside (R := records (ZZ m) K) fun c _ => start_of m K c)
  isplitr
  · unfold records; isplitl; · iexact HI
    iexact HR
  · iapply (Entails.of_eq (bigSep_sep' Finset.univ (fun c : Dev nD => bigSep Finset.univ fun k : Kd => (atPos ER (kcell (c, k)) 0 ∅ 0 : sProp 𝕄)) payToks).symm)
    isplitl [Hat]; · iexact Hat
    iexact Htk

/-- The semaphores of every device at once make every cell's invariant. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owedB_bar (d c : Dev nD) : ∀ l, owedB d l (barCell c) () = (l.map fun r => if d = peer c r.rev then 1 else 0).sum
  | [] => rfl
  | r :: l => by
    rw [owedB, Pi.add_apply, Finsupp.add_apply, owedB_bar d c l, List.map_cons, List.sum_cons, Nat.add_comm, tallyAt_apply]
    refine congrArg (· + _) (if_congr ⟨fun h => ?_, fun h => ?_⟩ rfl rfl)
    · exact peer_eq_iff.mp (congrArg Prod.fst (kcell_inj h.1)).symm
    · exact ⟨congrArg barCell (peer_eq_iff.mpr h).symm, rfl⟩

theorem owedR_recv (d c : Dev nD) (s : Fin 31) : ∀ l, owedR d l (recvCell c (peer c s)) ()
    = (l.map fun r => if d = peer c s ∧ r = s.rev then N else 0).sum
  | [] => rfl
  | r :: l => by
    rw [owedR, Pi.add_apply, Finsupp.add_apply, owedR_recv d c s l, List.map_cons, List.sum_cons, Nat.add_comm, tallyAt_apply]
    refine congrArg (· + _) (if_congr ⟨fun h => ?_, fun h => ?_⟩ rfl rfl)
    · have e := kcell_inj h.1
      have e1 : c = peer d r := congrArg Prod.fst e
      have e2 : peer c s = d := congrArg Prod.snd (Option.some.inj (congrArg Prod.snd e))
      refine ⟨e2.symm, peer_inj d ?_⟩
      rw [← e1, ← e2, peer_rev]
    · obtain ⟨rfl, rfl⟩ := h
      rw [peer_rev]; exact ⟨rfl, rfl⟩

theorem owedR_bar (d c : Dev nD) (l : List (Fin 31)) : owedR d l (barCell c) () = 0 := by
  by_contra h
  obtain ⟨p, q, e⟩ := owedR_pos (Nat.pos_of_ne_zero h)
  cases congrArg Prod.snd (kcell_inj e)
theorem owedB_recv (d c q : Dev nD) (l : List (Fin 31)) : owedB d l (recvCell c q) () = 0 := by
  by_contra h
  obtain ⟨p, e⟩ := owedB_pos (Nat.pos_of_ne_zero h)
  cases congrArg Prod.snd (kcell_inj e)

theorem sum_offs (f : Fin 31 → ℕ) : (offs.map f).sum = ∑ r, f r := by
  rw [show offs = List.finRange 31 from by decide, ← Fin.sum_univ_def]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  have h (d : Dev nD) : O₀ d (barCell c) () = ∑ r : Fin 31, if d = peer c r.rev then 1 else 0 := by
    rw [O₀, Pi.add_apply, Finsupp.add_apply, owedR_bar, Nat.zero_add, owedB_bar, sum_offs]
  rw [Finset.sum_congr rfl fun d _ => h d, Finset.sum_comm, Finset.sum_congr rfl fun r _ => (Finset.sum_ite_eq' Finset.univ (peer c (Fin.rev r)) fun _ => 1).trans (if_pos (Finset.mem_univ _))]
  rfl

theorem launch_recv (c : Dev nD) (s : Fin 31) :
    tallyOn (recvCell c (peer c s)) (launchCredit (Pipeline.owing O₀) 0 (recvCell c (peer c s))) = (tallyAt (recvCell c (peer c s)) () N : CellTallies nD τ sig Unit) := by
  unfold tallyAt; refine congrArg _ (Finsupp.ext fun u => ?_); cases u
  rw [Pipeline.launchCredit_owing, Finsupp.single_eq_same]
  have h (d : Dev nD) : O₀ d (recvCell c (peer c s)) () = if d = peer c s then N else 0 := by
    rw [O₀, Pi.add_apply, Finsupp.add_apply, owedB_recv, Nat.add_zero, owedR_recv, sum_offs]
    by_cases hd : d = peer c s
    · rw [if_pos hd, Finset.sum_congr rfl fun r _ => if_congr (and_iff_right hd) rfl rfl]
      exact (Finset.sum_ite_eq' Finset.univ s.rev fun _ => N).trans (if_pos (Finset.mem_univ _))
    · rw [if_neg hd]
      exact Finset.sum_eq_zero fun r _ => if_neg fun h => hd h.1
  rw [Finset.sum_congr rfl fun d _ => h d]
  exact (Finset.sum_ite_eq' Finset.univ (peer c s) fun _ => N).trans (if_pos (Finset.mem_univ _))

theorem creds (c : Dev nD) :
    (Pipeline.launchCred O₀ c : sProp 𝕄) ⊢ iprop(cred (tallyAt (barCell c) () 31) ∗ bigSepL offs fun r => cred (tallyAt (recvCell c (peer c r)) () N)) := by
  unfold Pipeline.launchCred
  refine (bigSep_subset (Finset.subset_univ (Finset.univ.map ⟨csem, csem_inj⟩))).trans ?_
  rw [bigSep_map, kd_split c]
  show iprop(cred (tallyOn (barCell c) (launchCredit (Pipeline.owing O₀) 0 (barCell c))) ∗ _ ∗ _
    ∗ bigSepL offs fun r => cred (tallyOn (recvCell c (peer c r)) (launchCredit (Pipeline.owing O₀) 0 (recvCell c (peer c r))))) ⊢ _
  simp only [launch_bar, launch_recv]
  iintro ⟨H1, -, -, H2⟩
  isplitl [H1] <;> iassumption

/-! ## The theorem's side conditions -/

/-- What the region finds at the start. -/
def start (c : Dev nD) : sProp 𝕄 := iprop(∃ K, held (ZZ m) K c ∗ toks c)

/-- The array that no window stages, as launched. -/
def aside (c : Dev nD) : sProp 𝕄 := ((c : Thread nD τ).loc main_arg2) ↦{fullShare} V m c main_arg2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ aside m c) := by
  rw [Pipeline.unscopedRestP_none, unscopedRest0_eq]
  unfold start G' held payToks aside
  iintro ⟨Ha, Hlev, Hcr, -, ⟨%K, Hrec, Hat, Hb, Hs, Hr⟩⟩
  ihave Hc := (creds (F := F) c) $$ Hcr
  icases Hc with ⟨H1, HN⟩
  imodintro
  isplitr [Ha]
  · iexists K
    isplitr [Hb]
    · isplitl [Hrec]; · iexact Hrec
      isplitl [Hat]; · iexact Hat
      isplitl [Hs]; · iexact Hs
      isplitl [Hr]; · iexact Hr
      isplitl [H1]; · iexact H1
      isplitl [HN] <;> iassumption
    iexact Hb
  iexact Ha

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Phi0 m c from rfl, scopedRest0_eq]
  unfold Phi0 start
  iintro ⟨Hs, -, ⟨⟨%f, HA⟩, ⟨%g, HC⟩⟩⟩
  isplitl [Hs]; · iexact Hs
  isplitl [HA]
  · iexists f
    rw [owns_whole]; iexact HA
  iexists g
  rw [View.set_whole]; iexact HC

theorem phi8_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Phi8 m c from rfl, scopedRest0_eq]
  unfold Phi8 closed
  rw [sems0_eq, owns_whole, owns_whole]
  iintro ⟨HA, HC, HzB, Hz⟩
  isplitl [HzB]; · iexact HzB
  isplitl [Hz]; · iexact Hz
  isplitl [HA]
  · iexists (ZZ m c); iexact HA
  iexists (comVal (ZZ m)); iexact HC

theorem waits (c : Dev nD) : (levAts L lv : sProp 𝕄) ⊢ Pipeline.cellsWaits cfgs (dats m) () 0 c :=
  Pipeline.cellsWaits_intro cfgs (dats m) () 0 c fun w s t =>
    mayWait_stage c _ (by
      have : ∀ w s, lv ((c : Thread nD τ), .dma ((cfg0.spec w).sem s)) () = 0 := by
        show ∀ w s, (match dec (.dma ((cfg0.spec w).sem s)) with
          | some none => 1
          | some (some (true, _)) => 2
          | _ => 0) = 0
        decide
      exact this w s) _ (by
      show owedN c t.val = _ ∨ owedN c t.val = _ ∨ owedN c t.val = _
      unfold owedN
      split
      · exact Or.inl rfl
      · split
        · exact Or.inr (Or.inr rfl)
        · exact Or.inr (Or.inl rfl))

/-! ## The run -/

/-- What window `w`'s array of device `c` holds after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r => ∀ c : Dev nD,
  (∀ w : Fin cfg0.W, r.2.mem ((cfg0.win w).arr.view.loc (c : Thread nD τ)) = finalA m c w)
  ∧ r.2.mem ((c : Thread nD τ).loc main_arg2) = m ((c : Thread nD τ).loc main_arg2)

set_option maxRecDepth 8000 in
/-- From any memory with zero counters the 32 kernels terminate, with each device's result array at the computed
    contents, its arguments as launched and every semaphore's counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => main_chain c)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := aside m)
    (hX := start_intro m ρ) (hin := phi0_intro m) (hout := phi8_exit m)
    (QY := fun c s => (∀ sm : SemLoc sig, sm.isScoped .tc = false → s.sem ((c.tc : Thread nD τ), sm) = 0)
      ∧ s.mem ((c : Thread nD τ).loc main_arg2) = m ((c : Thread nD τ).loc main_arg2))
    (hY := fun c s' => by
      unfold aside
      iintro ⟨Hu, Ha, HSI⟩
      icombine HSI Ha gives %h0
      imod (Pipeline.unscopedSems0_read (X := unscopedSems0 c) (c := c) fupd_intro s') $$ [Hu HSI] with ⟨%h1, HSI⟩
      · isplitl [Hu] <;> iassumption
      imodintro
      isplitr; · ipureintro; exact ⟨h1, Buf.eq_of_forall_mem_univ h0⟩
      iexact HSI)
    (hQ := fun _ h hs => ⟨fun c => ⟨fun w => (h c).1 w, (h c).2.2.2⟩, sem_eq_zero hs fun c => (h c).2.2.1⟩)

theorem finalA_x (c : Dev nD) : finalA m c 0 = m ((c : Thread nD τ).loc main_arg0) := (dats m 0 c).arrAt_in 0 rfl _
theorem finalA_y (c : Dev nD) : finalA m c 1 = m ((c : Thread nD τ).loc main_arg1) := (dats m 0 c).arrAt_in 1 rfl _

end Cert.KernelIdealProof

end
-- ==== Proof.Value.Array.lean ====
/-
# What the arrays hold

The blocks the grid points read, and the result array after the run.
-/
module

public import proofs.«01_k».proof.Proof.KI.Launch
public import Idealize.ShloMosaic.Lib.Pointwise
public import Idealize.ShloMosaic.Lib.Pipeline.ValueKit

@[expose] public section

noncomputable section

namespace Cert.KernelIdealProof

open Cert.KernelIdeal Cert.KernelIdeal.Gen
open Idealize.ShloMosaic Idealize.ShloMosaic.TcCoe Idealize.ShloMosaic.Pipeline

variable {F : FTy → Type} [FloatOps F]
variable (m : (ℓ : Loc nD τ sig) → Buf (Elt F) ℓ)

/-- Row `r` of the block of point `t`, as a row of the device's array. -/
def rowIn (t : Fin 8) (r : Fin 128) : Fin 1024 := ⟨t.val * 128 + r.val, by have := t.isLt; have := r.isLt; omega⟩

theorem index_x : ∀ t : Fin cfg0.N, win0_0.index t 0 = t.val ∧ win0_0.index t 1 = 0 := by decide
theorem index_y : ∀ t : Fin cfg0.N, win0_1.index t 0 = t.val ∧ win0_1.index t 1 = 0 := by decide

theorem iblk_x (c : Dev nD) (t : Fin cfg0.N) (r : Fin 128) (k : Fin 1024) :
    iblk m c 0 t (ix2 r k) = m ((c : Thread nD τ).loc main_arg0) (ix2 (rowIn (t.cast eight) r) k) := by
  blk_ext [iblk, V, rowIn]
  · rw [(index_x t).1]; rfl
  · rw [(index_x t).2]; omega

theorem iblk_y (c : Dev nD) (t : Fin cfg0.N) (r : Fin 128) (k : Fin 1024) :
    iblk m c 1 t (ix2 r k) = m ((c : Thread nD τ).loc main_arg1) (ix2 (rowIn (t.cast eight) r) k) := by
  blk_ext [iblk, V, rowIn]
  · rw [(index_y t).1]; rfl
  · rw [(index_y t).2]; omega

/-- The result array is written once, whole, at the last point. -/
theorem finalA_res (c : Dev nD) : finalA m c 2 = res m := by
  have h : (win0_2.blk t0_7).view.read (Elt F) (finalA m c 2) = res m := by
    unfold finalA
    rw [show cfg0.N = (t0_7 : Fin cfg0.N).val + 1 from rfl, (dats m 0 c).arrAt_succ (2 : Fin 3) t0_7,
      if_pos ((flush0_2 t0_7).mpr rfl)]
    exact View.read_write_univ _ _
  have hz : (fun a => (win0_2.index t0_7) a * main_v1.ty.shape.size a) = fun _ => 0 :=
    funext fun a => by fin_cases a <;> decide
  exact (Memref.read_access_unit_zero (Elt F) main_v1 hz (fun a => by fin_cases a <;> decide) _).symm.trans h

end Cert.KernelIdealProof

end
-- ==== Proof.Value.Row.lean ====
/-
# One row

The two texts normalize a row of finite numbers to the same numbers, whichever way the variance is taken.
-/
module

public import Idealize.ShloMosaic.PureOps.Ideal
public import Idealize.ShloMosaic.PureOps.Ideal.Laws

@[expose] public section

noncomputable section

namespace Cert.Value

open Idealize.ShloMosaic

/-- The kernel's normalized row `v` at column `j`: the mean by the reciprocal of 1024, the variance as the mean
    square less the squared mean, the inverse root of it plus the small constant multiplied in first. -/
def kHat (v : Fin 1024 → EReal) (j : Fin 1024) : EReal :=
  Ideal.rsqrt ((∑ k, v k * v k) * Ideal.ofBits FTy.f32 981467136#32
      - (∑ k, v k) * Ideal.ofBits FTy.f32 981467136#32 * ((∑ k, v k) * Ideal.ofBits FTy.f32 981467136#32)
      + Ideal.ofBits FTy.f32 925353388#32) * v j
    - (∑ k, v k) * Ideal.ofBits FTy.f32 981467136#32
      * Ideal.rsqrt ((∑ k, v k * v k) * Ideal.ofBits FTy.f32 981467136#32
          - (∑ k, v k) * Ideal.ofBits FTy.f32 981467136#32 * ((∑ k, v k) * Ideal.ofBits FTy.f32 981467136#32)
          + Ideal.ofBits FTy.f32 925353388#32)

/-- The reference's normalized row `v` at column `j`: the mean and the mean squared deviation by division by 1024
    (`z` where its count of freedoms is not positive, which it is), one over the root. -/
def rHat (z : EReal) (v : Fin 1024 → EReal) (j : Fin 1024) : EReal :=
  (v j - Ideal.div (∑ k, v k) (Ideal.ofBits FTy.f32 1149239296#32)) *
    Ideal.div 1 (Ideal.sqrt
      ((if 0 < Ideal.ofBits FTy.f32 1149239296#32 - FloatOps.sitofp (F := Ideal) FTy.f32 0#32 then
          Ideal.div
            (∑ k, (v k - Ideal.div (∑ l, v l) (Ideal.ofBits FTy.f32 1149239296#32)) *
              (v k - Ideal.div (∑ l, v l) (Ideal.ofBits FTy.f32 1149239296#32)))
            (Ideal.ofBits FTy.f32 1149239296#32 - FloatOps.sitofp (F := Ideal) FTy.f32 0#32)
        else z) + Ideal.ofBits FTy.f32 925353388#32))

theorem ofBits_n : Ideal.ofBits .f32 1149239296#32 = ((1024 : ℝ) : EReal) := by
  simp [Ideal.ofBits, Ideal.ieee, -EReal.coe_mul]; norm_num

theorem ofBits_inv_n : Ideal.ofBits .f32 981467136#32 = ((1 / 1024 : ℝ) : EReal) := by
  simp [Ideal.ofBits, Ideal.ieee, -EReal.coe_mul]; norm_num

/-- The small constant is a positive real number. -/
theorem ofBits_eps : ∃ e : ℝ, 0 < e ∧ Ideal.ofBits .f32 925353388#32 = (e : EReal) := by
  refine ⟨(2 ^ 23 + 2606508 : Nat) * (2 : ℝ) ^ (-40 : Int), by positivity, ?_⟩
  simp [Ideal.ofBits, Ideal.ieee, -EReal.coe_mul]

theorem freedoms : ((1024 : ℝ) : EReal) - FloatOps.sitofp (F := Ideal) FTy.f32 0#32 = ((1024 : ℝ) : EReal) := by
  show ((1024 : ℝ) : EReal) - (((0#32 : BitVec 32).toInt : ℝ) : EReal) = _
  simp

/-- A sum of real numbers is the real sum. -/
theorem coe_sum {ι : Type} (s : Finset ι) (a : ι → ℝ) : ∑ k ∈ s, ((a k : ℝ) : EReal) = ((∑ k ∈ s, a k : ℝ) : EReal) := by
  classical
  induction s using Finset.induction_on with
  | empty => simp
  | insert i s hi ih => rw [Finset.sum_insert hi, Finset.sum_insert hi, ih, EReal.coe_add]

/-- The mean square less the squared mean is the mean squared deviation. -/
theorem variance (a : Fin 1024 → ℝ) :
    (∑ k, a k * a k) * (1 / 1024) - (∑ k, a k) * (1 / 1024) * ((∑ k, a k) * (1 / 1024))
      = (∑ k, (a k - (∑ l, a l) * (1 / 1024)) * (a k - (∑ l, a l) * (1 / 1024))) * (1 / 1024) := by
  generalize hS : (∑ k, a k) = S
  have h : ∀ k, (a k - S * (1 / 1024)) * (a k - S * (1 / 1024))
      = a k * a k - a k * (S * (1 / 512)) + S * (1 / 1024) * (S * (1 / 1024)) := fun k => by ring
  rw [Finset.sum_congr rfl fun k _ => h k, Finset.sum_add_distrib, Finset.sum_sub_distrib, ← Finset.sum_mul, hS]
  simp only [Finset.sum_const, Finset.card_univ, Fintype.card_fin, nsmul_eq_mul]
  push_cast
  ring

/-- On a row of finite numbers the two texts agree. -/
theorem hat_eq (z : EReal) (v : Fin 1024 → EReal) (hv : ∀ k, ∃ a : ℝ, v k = (a : EReal)) (j : Fin 1024) :
    kHat v j = rHat z v j := by
  choose a ha using hv
  obtain rfl : v = fun k => ((a k : ℝ) : EReal) := funext ha
  obtain ⟨e, he, heq⟩ := ofBits_eps
  have hn : (1024 : ℝ) ≠ 0 := by norm_num
  have hpos : (0 : EReal) < ((1024 : ℝ) : EReal) := by exact_mod_cast (by norm_num : (0 : ℝ) < 1024)
  unfold kHat rHat
  rw [ofBits_n, ofBits_inv_n, heq, freedoms, if_pos hpos]
  simp only [Ideal.div_coe hn, ← EReal.coe_mul, ← EReal.coe_sub, ← EReal.coe_add, coe_sum]
  rw [variance]
  generalize hM : (∑ l, a l) * (1 / 1024) = M
  have hV : 0 < (∑ k, (a k - M) * (a k - M)) * (1 / 1024) + e := by
    have : 0 ≤ ∑ k, (a k - M) * (a k - M) := Finset.sum_nonneg fun k _ => mul_self_nonneg _
    positivity
  generalize (∑ k, (a k - M) * (a k - M)) * (1 / 1024) + e = V at hV
  have hr : Real.sqrt V ≠ 0 := (Real.sqrt_pos.mpr hV).ne'
  rw [Ideal.rsqrt_coe, Ideal.sqrt_coe, if_neg hV.not_gt, if_neg hV.not_gt, if_neg hV.ne', Ideal.div_coe hr, one_mul]
  simp only [← EReal.coe_mul, ← EReal.coe_sub]
  congr 1
  rw [one_div]
  ring

end Cert.Value
end
-- ==== Proof.Value.Kernel.lean ====
/-
# What the kernel computes

The kernel's result over the extended reals: each device adds up its eight blocks, and the 32 sums are added.
-/
module

public import proofs.«01_k».proof.Proof.Value.Array
public import proofs.«01_k».proof.Proof.Value.Row
public import Idealize.ShloMosaic.Lib.Layout

@[expose] public section

noncomputable section

namespace Cert.KernelIdealProof

open Cert.KernelIdeal Cert.KernelIdeal.Gen Cert.Value
open Idealize.ShloMosaic Idealize.ShloMosaic.TcCoe Idealize.ShloMosaic.Pipeline

/-- One block's sums: of the scale's terms in row 0, of the shift's in row 1. -/
theorem block_scale (x y : FVec Ideal S128x1024 .f32) (j : Fin 1024) :
    k0_pay4 x y (ix2 0 j) = ∑ r : Fin 128, y (ix2 r j) * kHat (fun k => x (ix2 r k)) j := by
  unfold kHat
  pointwise [k0_pay4]

theorem block_shift (x y : FVec Ideal S128x1024 .f32) (j : Fin 1024) :
    k0_pay4 x y (ix2 1 j) = ∑ r : Fin 128, y (ix2 r j) := by
  pointwise [k0_pay4]

variable (m : (ℓ : Loc nD τ sig) → Buf (Elt Ideal) ℓ)

/-- What the block of point `n` adds. -/
def term (c : Dev nD) (q : Fin 2) (j : Fin 1024) (n : ℕ) : EReal :=
  if h : n < cfg0.N then k0_pay4 (F := Ideal) (iblk m c 0 ⟨n, h⟩) (iblk m c 1 ⟨n, h⟩) (ix2 q j) else 0

theorem first_iff : ∀ t : Fin cfg0.N, Scalar.cmpi .eq (BitVec.ofNat 32 (grid0.coords t 0).val) 0#32 = BitVec.ofBool (decide (t.val = 0)) := by decide

theorem accF_sum (c : Dev nD) (q : Fin 2) (j : Fin 1024) :
    ∀ n, n ≤ cfg0.N → accF (F := Ideal) m c n (ix2 q j) = ∑ i ∈ Finset.range n, term m c q j i
  | 0, _ => by
    rw [accF, Finset.range_zero, Finset.sum_empty]
    pointwise [k0_pay5]
  | n + 1, h => by
    have ih := accF_sum c q j n (by omega)
    rw [Finset.sum_range_succ, ← ih, show n + 1 = (⟨n, h⟩ : Fin cfg0.N).val + 1 from rfl, accF_succ]
    unfold accStep
    rw [first_iff]
    unfold term
    rw [dif_pos (show n < cfg0.N from h)]
    generalize k0_pay4 (F := Ideal) _ _ = z
    rcases Nat.eq_zero_or_pos n with h0 | h0
    · subst h0
      pointwise [k0_pay1, k0_pay5, accF]
    · have : decide (n = 0) = false := by simpa using h0.ne'
      simp only [this]
      pointwise [k0_pay1]
      rw [if_neg Bool.false_ne_true]

/-- Every device's result. -/
theorem res_sum (q : Fin 2) (j : Fin 1024) :
    res (F := Ideal) m (ix2 q j) = ∑ c : Dev nD, ∑ t : Fin 8, term m c q j t.val := by
  have h : ∀ c : Dev nD, comVal (ZZ (F := Ideal) m) (ix3 c q j) = ∑ t : Fin 8, term m c q j t.val := fun c => by
    have e : comVal (ZZ (F := Ideal) m) (ix3 c q j) = accF (F := Ideal) m c 8 (ix2 q j) := by
      unfold comVal ZZ
      congr 1
      funext a
      fin_cases a <;> rfl
    rw [e, accF_sum m c q j 8 (le_of_eq eight.symm), Finset.sum_range]
  unfold res
  rw [← Finset.sum_congr rfl fun c _ => h c]
  pointwise [k0_pay3]

/-- Row `r` of block `t` of device `c`, as a row of the whole array. -/
def rowOf (c : Fin 32) (i : Fin 1024) : Fin 32768 := ⟨c.val * 1024 + i.val, by have := c.isLt; have := i.isLt; omega⟩

theorem block_row {α : Type} (c : Fin 32) (i k : Fin 1024) (v : (⟨2, ![32768, 1024]⟩ : Shape).Idx → α) :
    (Layout.block ⟨2, ![1024, 1024]⟩ ⟨2, ![32768, 1024]⟩ 0 32 c v) (ix2 i k) = v (ix2 (rowOf c i) k) := by
  rw [Layout.block_apply]
  congr 1
  funext a
  fin_cases a <;> rfl

/-- A sum over all rows taken block by block. -/
theorem sum_blocks {a b n : ℕ} (hn : a * b = n) (f : ℕ → EReal) :
    ∑ c : Fin a, ∑ i : Fin b, f (c.val * b + i.val) = ∑ k : Fin n, f k.val := by
  subst hn
  rw [← Fintype.sum_prod_type', ← Equiv.sum_comp finProdFinEquiv]
  refine Finset.sum_congr rfl fun p _ => congrArg f ?_
  simp [finProdFinEquiv, Nat.mul_comm, Nat.add_comm]

variable (X Y : (⟨2, ![32768, 1024]⟩ : Shape).Idx → EReal)

theorem res_scale (hx : ∀ c : Dev nD, m ((c : Thread nD τ).loc main_arg0) = Layout.block ⟨2, ![1024, 1024]⟩ ⟨2, ![32768, 1024]⟩ 0 32 c X)
    (hy : ∀ c : Dev nD, m ((c : Thread nD τ).loc main_arg1) = Layout.block ⟨2, ![1024, 1024]⟩ ⟨2, ![32768, 1024]⟩ 0 32 c Y)
    (j : Fin 1024) :
    res (F := Ideal) m (ix2 0 j) = ∑ R : Fin 32768, Y (ix2 R j) * kHat (fun k => X (ix2 R k)) j := by
  let f : ℕ → EReal := fun n => if h : n < 32768 then Y (ix2 ⟨n, h⟩ j) * kHat (fun k => X (ix2 ⟨n, h⟩ k)) j else 0
  have hf : ∀ R : Fin 32768, Y (ix2 R j) * kHat (fun k => X (ix2 R k)) j = f R.val := fun R => by
    show _ = dite _ _ _
    rw [dif_pos R.isLt]
  rw [res_sum, Finset.sum_congr rfl fun R _ => hf R, ← sum_blocks (a := 32) (b := 1024) rfl f]
  refine Finset.sum_congr rfl fun c _ => ?_
  rw [← sum_blocks (a := 8) (b := 128) rfl (fun i => f (c.val * 1024 + i))]
  refine Finset.sum_congr rfl fun t _ => ?_
  have ht : t.val < cfg0.N := by rw [eight]; exact t.isLt
  unfold term
  rw [dif_pos ht, block_scale]
  refine Finset.sum_congr rfl fun r _ => ?_
  rw [show f (c.val * 1024 + (t.val * 128 + r.val)) = f (rowOf c (rowIn t r)).val from rfl, ← hf, iblk_y, hy, block_row]
  simp only [iblk_x, hx, block_row]
  rfl

theorem res_shift (hy : ∀ c : Dev nD, m ((c : Thread nD τ).loc main_arg1) = Layout.block ⟨2, ![1024, 1024]⟩ ⟨2, ![32768, 1024]⟩ 0 32 c Y)
    (j : Fin 1024) :
    res (F := Ideal) m (ix2 1 j) = ∑ R : Fin 32768, Y (ix2 R j) := by
  let f : ℕ → EReal := fun n => if h : n < 32768 then Y (ix2 ⟨n, h⟩ j) else 0
  have hf : ∀ R : Fin 32768, Y (ix2 R j) = f R.val := fun R => by
    show _ = dite _ _ _
    rw [dif_pos R.isLt]
  rw [res_sum, Finset.sum_congr rfl fun R _ => hf R, ← sum_blocks (a := 32) (b := 1024) rfl f]
  refine Finset.sum_congr rfl fun c _ => ?_
  rw [← sum_blocks (a := 8) (b := 128) rfl (fun i => f (c.val * 1024 + i))]
  refine Finset.sum_congr rfl fun t _ => ?_
  have ht : t.val < cfg0.N := by rw [eight]; exact t.isLt
  unfold term
  rw [dif_pos ht, block_shift]
  refine Finset.sum_congr rfl fun r _ => ?_
  rw [show f (c.val * 1024 + (t.val * 128 + r.val)) = f (rowOf c (rowIn t r)).val from rfl, ← hf, iblk_y, hy, block_row]
  rfl

end Cert.KernelIdealProof

end
-- ==== Proof.Value.Reference.lean ====
/-
# What the reference computes, and the precondition

The reference's two rows over the extended reals, and what it means that every element of `x` is finite.
-/
module

public import proofs.«01_k».proof.Pre_x_finite_KernelIdeal
public import proofs.«01_k».proof.Proof.Gen.ReferenceIdeal
public import proofs.«01_k».proof.Proof.Gen.ReferenceIdeal.Run
public import proofs.«01_k».proof.Proof.Value.Row
public import Idealize.ShloMosaic.Lib.Pointwise

@[expose] public section

noncomputable section

namespace Cert.ReferenceIdealProof

open Cert.ReferenceIdeal Cert.ReferenceIdeal.Gen Cert.Value
open Idealize.ShloMosaic Idealize.ShloMosaic.TcCoe Idealize.SL.Sem

/-- What the reference would take for a variance with no freedoms. -/
def spare : EReal := id (constant (F := Ideal) S_ FTy.f32 2143289344#32) ix0

/-- The scale's gradient at column `j`. -/
def scaleRow (X Y : (⟨2, ![32768, 1024]⟩ : Shape).Idx → EReal) (j : Fin 1024) : EReal :=
  ∑ R : Fin 32768, Y (ix2 R j) * rHat spare (fun k => X (ix2 R k)) j

/-- The shift's gradient at column `j`. -/
def shiftRow (Y : (⟨2, ![32768, 1024]⟩ : Shape).Idx → EReal) (j : Fin 1024) : EReal := ∑ R : Fin 32768, Y (ix2 R j)

/-- The reference's run, its result read in its two rows. -/
theorem run_rows (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      ((∀ j : Fin 1024, r.2.mem ((c : Thread nD τ).loc main_v19) (ix2 0 j)
          = scaleRow (m ((c : Thread nD τ).loc main_arg0)) (m ((c : Thread nD τ).loc main_arg1)) j)
        ∧ ∀ j : Fin 1024, r.2.mem ((c : Thread nD τ).loc main_v19) (ix2 1 j)
          = shiftRow (m ((c : Thread nD τ).loc main_arg1)) j)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) := by
  refine (θ_run _ _ _).mono (fun r h c => ⟨?_, (h c).2⟩) (Cert.ReferenceIdeal.Value.run (F := Ideal) m ρ)
  rw [(h c).1]
  generalize m (c.tc.loc main_arg0) = x
  generalize m (c.tc.loc main_arg1) = y
  constructor
  · intro j
    unfold scaleRow rHat spare
    pointwise
  · intro j
    unfold shiftRow
    pointwise

/-- The precondition read at one element. -/
theorem finite_of_pre [Cert.Pre_x_finite_KernelIdeal.Facts] {x y : FVec Ideal Cert.Pre_x_finite_KernelIdeal.S1024x1024 .f32}
    {g : FVec Ideal Cert.Pre_x_finite_KernelIdeal.S1024 .f32}
    (h : Cert.Pre_x_finite_KernelIdeal.fn x y g = fun _ => 1#1) (r k : Fin 1024) : ∃ a : ℝ, x (ix2 r k) = (a : EReal) := by
  have h1 := congrFun h (ix2 r k)
  pointwise [Cert.Pre_x_finite_KernelIdeal.fn] at h1
  have h2 : max (x (ix2 r k)) (-(x (ix2 r k))) < (⊤ : EReal) := by
    have e : Ideal.ofBits FTy.f32 2139095040#32 = ⊤ := by simp [Ideal.ofBits, Ideal.ieee]
    rw [e] at h1
    by_contra hn
    rw [show decide (FloatOps.absf (x (ix2 r k)) < (⊤ : EReal)) = false from decide_eq_false hn] at h1
    exact absurd h1 (by decide)
  generalize x (ix2 r k) = u at h2
  induction u using EReal.rec with
  | bot => simp at h2
  | coe a => exact ⟨a, rfl⟩
  | top => simp at h2

end Cert.ReferenceIdealProof

end
-- ==== Proof.lean ====
/-
# The certificate's claims

The runs of the kernel at both readings, the reference's run, and the equation between their results.
-/
module

public import proofs.«01_k».proof.Defs
public import proofs.«01_k».proof.Proof.K.Launch
public import proofs.«01_k».proof.Proof.KI.Launch
public import proofs.«01_k».proof.Proof.Value.Kernel
public import proofs.«01_k».proof.Proof.Value.Reference
public import Idealize.ShloMosaic.Adequacy
public import Idealize.ShloMosaic.Init

@[expose] public section

noncomputable section

namespace Cert.Proof

open Idealize.ShloMosaic Idealize.SL.Sem Cert.Value

instance factsPreK : Cert.Pre_x_finite_KernelIdeal.Facts := ⟨by decide⟩
instance factsPreR : Cert.Pre_x_finite_ReferenceIdeal.Facts := ⟨by decide⟩

/-- The kernel at machine words runs, leaves its arguments and ends with every counter at zero. -/
theorem frame_k : Cert.quiescent_Kernel := by
  intro m g _
  exact (θ_run _ _ _).mono (fun _ h => ⟨fun c => ⟨((h.1 c).1 0).trans (Cert.KernelProof.finalA_x m c),
    ((h.1 c).1 1).trans (Cert.KernelProof.finalA_y m c), (h.1 c).2⟩, h.2⟩) (Cert.KernelProof.run_main (F := Bits) m g)

/-- The same over the extended reals. -/
theorem frame_ki : Cert.quiescent_KernelIdeal := by
  intro m g _
  exact (θ_run _ _ _).mono (fun _ h => ⟨fun c => ⟨((h.1 c).1 0).trans (Cert.KernelIdealProof.finalA_x m c),
    ((h.1 c).1 1).trans (Cert.KernelIdealProof.finalA_y m c), (h.1 c).2⟩, h.2⟩) (Cert.KernelIdealProof.run_main (F := Ideal) m g)

/-- The reference runs and leaves its arguments; it has no counters. -/
theorem frame_ri : Cert.quiescent_ReferenceIdeal := by
  intro m g _
  exact (θ_run _ _ _).mono (fun r h => ⟨fun c => (h c).2, sem_eq_zero_of_no_sems (by decide) r.2⟩)
    (Cert.ReferenceIdealProof.run_rows m g)

/-- Every row of the whole array lies in some device's block. -/
theorem row_split (R : Fin 32768) : ∃ (c : Fin 32) (i : Fin 1024), R = Cert.KernelIdealProof.rowOf c i :=
  ⟨⟨R.val / 1024, by have := R.isLt; omega⟩, ⟨R.val % 1024, Nat.mod_lt _ (by norm_num)⟩,
    Fin.ext (by show R.val = R.val / 1024 * 1024 + R.val % 1024; omega)⟩

/-- On finite rows the reference's scale row is the kernel's. -/
theorem scale_eq (X Y : (⟨2, ![32768, 1024]⟩ : Shape).Idx → EReal) (hX : ∀ R k, ∃ a : ℝ, X (ix2 R k) = (a : EReal)) (j : Fin 1024) :
    Cert.ReferenceIdealProof.scaleRow X Y j = ∑ R : Fin 32768, Y (ix2 R j) * kHat (fun k => X (ix2 R k)) j := by
  unfold Cert.ReferenceIdealProof.scaleRow
  exact Finset.sum_congr rfl fun R _ => by rw [hat_eq Cert.ReferenceIdealProof.spare _ (hX R)]

/-- Two arrays of two rows are equal where both rows are. -/
theorem two_rows {f g : (⟨2, ![2, 1024]⟩ : Shape).Idx → EReal} (h0 : ∀ j, f (ix2 0 j) = g (ix2 0 j))
    (h1 : ∀ j, f (ix2 1 j) = g (ix2 1 j)) : f = g := by
  have h : ∀ (q : Fin 2) (j : Fin 1024), f (ix2 q j) = g (ix2 q j) := fun q j => by
    fin_cases q
    · exact h0 j
    · exact h1 j
  funext i
  rw [show i = ix2 (i 0) (i 1) by funext a; fin_cases a <;> rfl]
  exact h _ _

/-- The kernel's result is the reference's. -/
theorem value : Cert.algebraic_KernelIdeal_ReferenceIdeal_pre_x_finite_KernelIdeal := by
  intro m g m' g' hpre hm
  let X : (⟨2, ![32768, 1024]⟩ : Shape).Idx → EReal := m' (((0 : Dev Cert.ReferenceIdeal.nD).tc : Thread Cert.ReferenceIdeal.nD Cert.ReferenceIdeal.τ).loc Cert.ReferenceIdeal.main_arg0)
  let Y : (⟨2, ![32768, 1024]⟩ : Shape).Idx → EReal := m' (((0 : Dev Cert.ReferenceIdeal.nD).tc : Thread Cert.ReferenceIdeal.nD Cert.ReferenceIdeal.τ).loc Cert.ReferenceIdeal.main_arg1)
  have hX : ∀ R k, ∃ a : ℝ, X (ix2 R k) = (a : EReal) := fun R k => by
    obtain ⟨c, i, rfl⟩ := row_split R
    obtain ⟨a, ha⟩ := Cert.ReferenceIdealProof.finite_of_pre (hpre c) i k
    exact ⟨a, (Cert.KernelIdealProof.block_row c i k X).symm.trans ((congrFun (hm c).1 (ix2 i k)).symm.trans ha)⟩
  have h0 := fun j => (Cert.KernelIdealProof.res_scale m X Y (fun c => (hm c).1) (fun c => (hm c).2.1) j).trans (scale_eq X Y hX j).symm
  have h1 := fun j => Cert.KernelIdealProof.res_shift m Y (fun c => (hm c).2.1) j
  refine ⟨Cert.KernelIdealProof.res (F := Ideal) m, ?_, ?_⟩
  · exact (θ_run _ _ _).mono (fun _ h c => ⟨((h.1 c).1 2).trans (Cert.KernelIdealProof.finalA_res m c),
      ((h.1 c).1 0).trans (Cert.KernelIdealProof.finalA_x m c),
      ((h.1 c).1 1).trans (Cert.KernelIdealProof.finalA_y m c), (h.1 c).2⟩) (Cert.KernelIdealProof.run_main (F := Ideal) m g)
  · refine (θ_run _ _ _).mono (fun r h => ⟨?_, (h 0).2⟩) (Cert.ReferenceIdealProof.run_rows m' g')
    exact two_rows (fun j => ((h 0).1.1 j).trans (h0 j).symm) (fun j => ((h 0).1.2 j).trans (h1 j).symm)

theorem claim : Cert.Claim :=
  ⟨Cert.Kernel.Gen.facts, Cert.KernelIdeal.Gen.facts, Cert.ReferenceIdeal.Gen.facts, factsPreK, factsPreR,
    frame_k, frame_ki, fun m g _ => frame_ki m g trivial, frame_ri, fun m g _ => frame_ri m g trivial, trivial, value⟩

end Cert.Proof

end
